-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_nonzero [hPre_in_range_nonzero : Cert.Pre_in_range_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_nonzero [hPre_in_range_nonzero : Cert.Pre_in_range_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_nonzero [hKernelIdeal : Cert.KernelIdeal.Facts] [hPre_in_range_nonzero : Cert.Pre_in_range_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_nonzero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_nonzero [hReferenceIdeal : Cert.ReferenceIdeal.Facts] [hPre_in_range_nonzero : Cert.Pre_in_range_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_nonzero [hKernelIdeal : Cert.KernelIdeal.Facts] [hReferenceIdeal : Cert.ReferenceIdeal.Facts] [hPre_in_range_nonzero : Cert.Pre_in_range_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_nonzero : Cert.Pre_in_range_nonzero.Facts),
    quiescent_Kernel (hKernel := hKernel) (hPre_in_range := hPre_in_range)
    ∧ quiescent_KernelIdeal (hKernelIdeal := hKernelIdeal) (hPre_in_range := hPre_in_range)
    ∧ quiescent_KernelIdeal_pre_in_range_nonzero (hKernelIdeal := hKernelIdeal) (hPre_in_range_nonzero := hPre_in_range_nonzero)
    ∧ quiescent_ReferenceIdeal (hReferenceIdeal := hReferenceIdeal)
    ∧ quiescent_ReferenceIdeal_pre_in_range_nonzero (hReferenceIdeal := hReferenceIdeal) (hPre_in_range_nonzero := hPre_in_range_nonzero)
    ∧ preserves_Kernel_KernelIdeal
    ∧ algebraic_KernelIdeal_ReferenceIdeal_pre_in_range_nonzero (hKernelIdeal := hKernelIdeal) (hReferenceIdeal := hReferenceIdeal) (hPre_in_range_nonzero := hPre_in_range_nonzero)
-- ==== Pre_in_range.lean ====
abbrev S16384x1024 : Shape := ⟨2, ![16384, 1024]⟩
abbrev S16384 : Shape := ⟨1, ![16384]⟩
abbrev S64x1024 : Shape := ⟨2, ![64, 1024]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1024 .f32) (main_arg1 : IVec S16384 32) (main_arg2 : FVec F S64x1024 .f32) (main_arg3 : FVec F S64x1024 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 64#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_in_range_nonzero.lean ====
abbrev S16384x1024 : Shape := ⟨2, ![16384, 1024]⟩
abbrev S16384 : Shape := ⟨1, ![16384]⟩
abbrev S64x1024 : Shape := ⟨2, ![64, 1024]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S16384x1024 .f32) (main_arg1 : IVec S16384 32) (main_arg2 : FVec F S64x1024 .f32) (main_arg3 : FVec F S64x1024 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 64#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_cst : FVec F S_ .f32 := constant S_ .f32 0x3727C5AC#32
  let main_v6 : FVec F S64x1024 .f32 := broadcastInDim S64x1024 ![] bcast_S_S64x1024 main_cst
  let main_v7 : FVec F S64x1024 .f32 := addf main_arg3 main_v6
  let main_cst_2 : FVec F S_ .f32 := constant S_ .f32 0x00000000#32
  let main_v8 : FVec F S64x1024 .f32 := broadcastInDim S64x1024 ![] bcast_S_S64x1024 main_cst_2
  let main_v9 : IVec S64x1024 1 := cmpf .une main_v7 main_v8
  let main_c_3 : IVec S_ 1 := constantI S_ 1 1#1
  let main_v10 : IVec S_ 1 := (fun x v => Host.reduce IntOp.andi x v reducesTo_S64x1024_S_d0_1 h_S_) main_v9 main_c_3
  let main_v11 : IVec S_ 1 := andi main_v5 main_v10
  main_v11
-- ==== Kernel.lean ====
abbrev S16384x1024 : Shape := ⟨2, ![16384, 1024]⟩
abbrev S16384 : Shape := ⟨1, ![16384]⟩
abbrev S64x1024 : Shape := ⟨2, ![64, 1024]⟩
abbrev S16384x1 : Shape := ⟨2, ![16384, 1]⟩
abbrev S_ : Shape := ⟨0, ![]⟩
abbrev S8 : Shape := ⟨1, ![8]⟩
abbrev S1x8 : Shape := ⟨2, ![1, 8]⟩
abbrev S16384x8 : Shape := ⟨2, ![16384, 8]⟩
abbrev S131072 : Shape := ⟨1, ![131072]⟩
abbrev S512x128 : Shape := ⟨2, ![512, 128]⟩
abbrev S8x1024 : Shape := ⟨2, ![8, 1024]⟩
abbrev S64x128 : Shape := ⟨2, ![64, 128]⟩
abbrev S4096 : Shape := ⟨1, ![4096]⟩
abbrev S64 : Shape := ⟨1, ![64]⟩
abbrev S1x16 : Shape := ⟨2, ![1, 16]⟩
abbrev S16 : Shape := ⟨1, ![16]⟩

abbrev nBuf : Table → Nat
  | .hbm => 18
  | .local .tc .vmem => 2
  | .local .scVector .vmem => 15
  | _ => 0

abbrev bufTy : (tb : Table) → Fin (nBuf tb) → BufTy
  | .hbm, ⟨0, _⟩ => ⟨S16384x1024, .f32⟩
  | .hbm, ⟨1, _⟩ => ⟨S16384, .i32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S16384x1, .i32⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S8, .i32⟩
  | .hbm, ⟨10, _⟩ => ⟨S1x8, .i32⟩
  | .hbm, ⟨11, _⟩ => ⟨S16384x8, .i32⟩
  | .hbm, ⟨12, _⟩ => ⟨S16384x8, .i32⟩
  | .hbm, ⟨13, _⟩ => ⟨S16384x8, .i32⟩
  | .hbm, ⟨14, _⟩ => ⟨S131072, .i32⟩
  | .hbm, ⟨15, _⟩ => ⟨S512x128, .f32⟩
  | .hbm, ⟨16, _⟩ => ⟨S512x128, .f32⟩
  | .hbm, ⟨17, _⟩ => ⟨S16384x1024, .f32⟩
  | .local .tc .vmem, ⟨0, _⟩ => ⟨S64x1024, .f32⟩
  | .local .tc .vmem, ⟨1, _⟩ => ⟨S64x1024, .f32⟩
  | .local .scVector .vmem, ⟨0, _⟩ => ⟨S8x1024, .f32⟩
  | .local .scVector .vmem, ⟨1, _⟩ => ⟨S8x1024, .f32⟩
  | .local .scVector .vmem, ⟨2, _⟩ => ⟨S8x1024, .f32⟩
  | .local .scVector .vmem, ⟨3, _⟩ => ⟨S8x1024, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S8x1024, .f32⟩
  | .local .scVector .vmem, ⟨13, _⟩ => ⟨S8x1024, .f32⟩
  | .local .scVector .vmem, ⟨14, _⟩ => ⟨S4096, .i32⟩
  | _, _ => ⟨S16384x1024, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_arg0_scv : Ref sig .scVector := ⟨.hbm, 0, rfl⟩
abbrev main_v9_scv : Ref sig .scVector := ⟨.hbm, 14, rfl⟩
abbrev main_v10_scv : Ref sig .scVector := ⟨.hbm, 15, rfl⟩
abbrev main_v11_scv : Ref sig .scVector := ⟨.hbm, 16, rfl⟩
abbrev main_v12_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c8_i32 : BitVec 32 := 8#32
  let v3 : BitVec 32 := Scalar.muli v2 c8_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  let c0_i32_0 : BitVec 32 := 0#32
  ![v4.toNat, 0]
@[reducible] def k1_t1_loop : Scf.Loop 32 :=
  let c0_i32_31 : BitVec 32 := 0#32
  let c16_i32_32 : BitVec 32 := 16#32
  let v32 : BitVec 32 := Scalar.addi c0_i32_31 c16_i32_32
  let c1_i32 : BitVec 32 := 1#32
  ⟨c0_i32_31, v32, c1_i32⟩
@[reducible] def k1_t2_loop : Scf.Loop 32 :=
  let c0_i32_55 : BitVec 32 := 0#32
  let c8_i32_56 : BitVec 32 := 8#32
  let v48 : BitVec 32 := Scalar.addi c0_i32_55 c8_i32_56
  let c1_i32_57 : BitVec 32 := 1#32
  ⟨c0_i32_55, v48, c1_i32_57⟩
def k1_off3 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v121 : Index := Scalar.indexCast v118
  let c0 : Index := 0#32
  ![v121.toNat, 0]
def k1_off4 (k1_t2 : Fin k1_t2_loop.trips) (c0_i32_139 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_138 : BitVec 32 := 8#32
  let v119 : BitVec 32 := Scalar.muli v118 c8_i32_138
  let v120 : BitVec 32 := Scalar.addi v119 c0_i32_139
  let v124 : Index := Scalar.indexCast v120
  let c0_140 : Index := 0#32
  ![v124.toNat, 0]
def k1_off5 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v138 : Index := Scalar.indexCast v118
  let c16 : Index := 16#32
  ![v138.toNat, 16]
def k1_off6 (k1_t2 : Fin k1_t2_loop.trips) (c0_i32_144 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_143 : BitVec 32 := 8#32
  let v136 : BitVec 32 := Scalar.muli v118 c8_i32_143
  let v137 : BitVec 32 := Scalar.addi v136 c0_i32_144
  let v141 : Index := Scalar.indexCast v137
  let c16_145 : Index := 16#32
  ![v141.toNat, 16]
def k1_off7 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v155 : Index := Scalar.indexCast v118
  let c32 : Index := 32#32
  ![v155.toNat, 32]
def k1_off8 (k1_t2 : Fin k1_t2_loop.trips) (c0_i32_149 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_148 : BitVec 32 := 8#32
  let v153 : BitVec 32 := Scalar.muli v118 c8_i32_148
  let v154 : BitVec 32 := Scalar.addi v153 c0_i32_149
  let v158 : Index := Scalar.indexCast v154
  let c32_150 : Index := 32#32
  ![v158.toNat, 32]
def k1_off9 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v172 : Index := Scalar.indexCast v118
  let c48 : Index := 48#32
  ![v172.toNat, 48]
def k1_off10 (k1_t2 : Fin k1_t2_loop.trips) (c0_i32_154 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_153 : BitVec 32 := 8#32
  let v170 : BitVec 32 := Scalar.muli v118 c8_i32_153
  let v171 : BitVec 32 := Scalar.addi v170 c0_i32_154
  let v175 : Index := Scalar.indexCast v171
  let c48_155 : Index := 48#32
  ![v175.toNat, 48]
def k1_off11 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v189 : Index := Scalar.indexCast v118
  let c64 : Index := 64#32
  ![v189.toNat, 64]
def k1_off12 (k1_t2 : Fin k1_t2_loop.trips) (c0_i32_159 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_158 : BitVec 32 := 8#32
  let v187 : BitVec 32 := Scalar.muli v118 c8_i32_158
  let v188 : BitVec 32 := Scalar.addi v187 c0_i32_159
  let v192 : Index := Scalar.indexCast v188
  let c64_160 : Index := 64#32
  ![v192.toNat, 64]
def k1_off13 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v206 : Index := Scalar.indexCast v118
  let c80 : Index := 80#32
  ![v206.toNat, 80]
def k1_off14 (k1_t2 : Fin k1_t2_loop.trips) (c0_i32_164 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_163 : BitVec 32 := 8#32
  let v204 : BitVec 32 := Scalar.muli v118 c8_i32_163
  let v205 : BitVec 32 := Scalar.addi v204 c0_i32_164
  let v209 : Index := Scalar.indexCast v205
  let c80_165 : Index := 80#32
  ![v209.toNat, 80]
def k1_off15 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v223 : Index := Scalar.indexCast v118
  let c96 : Index := 96#32
  ![v223.toNat, 96]
def k1_off16 (k1_t2 : Fin k1_t2_loop.trips) (c0_i32_169 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_168 : BitVec 32 := 8#32
  let v221 : BitVec 32 := Scalar.muli v118 c8_i32_168
  let v222 : BitVec 32 := Scalar.addi v221 c0_i32_169
  let v226 : Index := Scalar.indexCast v222
  let c96_170 : Index := 96#32
  ![v226.toNat, 96]
def k1_off17 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v240 : Index := Scalar.indexCast v118
  let c112 : Index := 112#32
  ![v240.toNat, 112]
def k1_off18 (k1_t2 : Fin k1_t2_loop.trips) (c0_i32_174 : BitVec 32) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let c8_i32_173 : BitVec 32 := 8#32
  let v238 : BitVec 32 := Scalar.muli v118 c8_i32_173
  let v239 : BitVec 32 := Scalar.addi v238 c0_i32_174
  let v243 : Index := Scalar.indexCast v239
  let c112_175 : Index := 112#32
  ![v243.toNat, 112]
def k1_off19 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v257 : Index := Scalar.indexCast v118
  let c128 : Index := 128#32
  ![v257.toNat, 128]
def k1_off20 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v274 : Index := Scalar.indexCast v118
  let c144 : Index := 144#32
  ![v274.toNat, 144]
def k1_off21 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v291 : Index := Scalar.indexCast v118
  let c160 : Index := 160#32
  ![v291.toNat, 160]
def k1_off22 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v308 : Index := Scalar.indexCast v118
  let c176 : Index := 176#32
  ![v308.toNat, 176]
def k1_off23 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v325 : Index := Scalar.indexCast v118
  let c192 : Index := 192#32
  ![v325.toNat, 192]
def k1_off24 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v342 : Index := Scalar.indexCast v118
  let c208 : Index := 208#32
  ![v342.toNat, 208]
def k1_off25 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v359 : Index := Scalar.indexCast v118
  let c224 : Index := 224#32
  ![v359.toNat, 224]
def k1_off26 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v376 : Index := Scalar.indexCast v118
  let c240 : Index := 240#32
  ![v376.toNat, 240]
def k1_off27 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v393 : Index := Scalar.indexCast v118
  let c256 : Index := 256#32
  ![v393.toNat, 256]
def k1_off28 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v410 : Index := Scalar.indexCast v118
  let c272 : Index := 272#32
  ![v410.toNat, 272]
def k1_off29 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v427 : Index := Scalar.indexCast v118
  let c288 : Index := 288#32
  ![v427.toNat, 288]
def k1_off30 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v444 : Index := Scalar.indexCast v118
  let c304 : Index := 304#32
  ![v444.toNat, 304]
def k1_off31 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v461 : Index := Scalar.indexCast v118
  let c320 : Index := 320#32
  ![v461.toNat, 320]
def k1_off32 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v478 : Index := Scalar.indexCast v118
  let c336 : Index := 336#32
  ![v478.toNat, 336]
def k1_off33 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v495 : Index := Scalar.indexCast v118
  let c352 : Index := 352#32
  ![v495.toNat, 352]
def k1_off34 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v512 : Index := Scalar.indexCast v118
  let c368 : Index := 368#32
  ![v512.toNat, 368]
def k1_off35 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v529 : Index := Scalar.indexCast v118
  let c384 : Index := 384#32
  ![v529.toNat, 384]
def k1_off36 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v546 : Index := Scalar.indexCast v118
  let c400 : Index := 400#32
  ![v546.toNat, 400]
def k1_off37 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v563 : Index := Scalar.indexCast v118
  let c416 : Index := 416#32
  ![v563.toNat, 416]
def k1_off38 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v580 : Index := Scalar.indexCast v118
  let c432 : Index := 432#32
  ![v580.toNat, 432]
def k1_off39 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v597 : Index := Scalar.indexCast v118
  let c448 : Index := 448#32
  ![v597.toNat, 448]
def k1_off40 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v614 : Index := Scalar.indexCast v118
  let c464 : Index := 464#32
  ![v614.toNat, 464]
def k1_off41 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v631 : Index := Scalar.indexCast v118
  let c480 : Index := 480#32
  ![v631.toNat, 480]
def k1_off42 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v648 : Index := Scalar.indexCast v118
  let c496 : Index := 496#32
  ![v648.toNat, 496]
def k1_off43 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v665 : Index := Scalar.indexCast v118
  let c512 : Index := 512#32
  ![v665.toNat, 512]
def k1_off44 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v682 : Index := Scalar.indexCast v118
  let c528 : Index := 528#32
  ![v682.toNat, 528]
def k1_off45 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v699 : Index := Scalar.indexCast v118
  let c544 : Index := 544#32
  ![v699.toNat, 544]
def k1_off46 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v716 : Index := Scalar.indexCast v118
  let c560 : Index := 560#32
  ![v716.toNat, 560]
def k1_off47 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v733 : Index := Scalar.indexCast v118
  let c576 : Index := 576#32
  ![v733.toNat, 576]
def k1_off48 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v750 : Index := Scalar.indexCast v118
  let c592 : Index := 592#32
  ![v750.toNat, 592]
def k1_off49 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v767 : Index := Scalar.indexCast v118
  let c608 : Index := 608#32
  ![v767.toNat, 608]
def k1_off50 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v784 : Index := Scalar.indexCast v118
  let c624 : Index := 624#32
  ![v784.toNat, 624]
def k1_off51 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v801 : Index := Scalar.indexCast v118
  let c640 : Index := 640#32
  ![v801.toNat, 640]
def k1_off52 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v818 : Index := Scalar.indexCast v118
  let c656 : Index := 656#32
  ![v818.toNat, 656]
def k1_off53 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v835 : Index := Scalar.indexCast v118
  let c672 : Index := 672#32
  ![v835.toNat, 672]
def k1_off54 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v852 : Index := Scalar.indexCast v118
  let c688 : Index := 688#32
  ![v852.toNat, 688]
def k1_off55 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v869 : Index := Scalar.indexCast v118
  let c704 : Index := 704#32
  ![v869.toNat, 704]
def k1_off56 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v886 : Index := Scalar.indexCast v118
  let c720 : Index := 720#32
  ![v886.toNat, 720]
def k1_off57 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v903 : Index := Scalar.indexCast v118
  let c736 : Index := 736#32
  ![v903.toNat, 736]
def k1_off58 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v920 : Index := Scalar.indexCast v118
  let c752 : Index := 752#32
  ![v920.toNat, 752]
def k1_off59 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v937 : Index := Scalar.indexCast v118
  let c768 : Index := 768#32
  ![v937.toNat, 768]
def k1_off60 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v954 : Index := Scalar.indexCast v118
  let c784 : Index := 784#32
  ![v954.toNat, 784]
def k1_off61 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v971 : Index := Scalar.indexCast v118
  let c800 : Index := 800#32
  ![v971.toNat, 800]
def k1_off62 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v988 : Index := Scalar.indexCast v118
  let c816 : Index := 816#32
  ![v988.toNat, 816]
def k1_off63 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1005 : Index := Scalar.indexCast v118
  let c832 : Index := 832#32
  ![v1005.toNat, 832]
def k1_off64 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1022 : Index := Scalar.indexCast v118
  let c848 : Index := 848#32
  ![v1022.toNat, 848]
def k1_off65 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1039 : Index := Scalar.indexCast v118
  let c864 : Index := 864#32
  ![v1039.toNat, 864]
def k1_off66 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1056 : Index := Scalar.indexCast v118
  let c880 : Index := 880#32
  ![v1056.toNat, 880]
def k1_off67 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1073 : Index := Scalar.indexCast v118
  let c896 : Index := 896#32
  ![v1073.toNat, 896]
def k1_off68 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1090 : Index := Scalar.indexCast v118
  let c912 : Index := 912#32
  ![v1090.toNat, 912]
def k1_off69 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1107 : Index := Scalar.indexCast v118
  let c928 : Index := 928#32
  ![v1107.toNat, 928]
def k1_off70 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1124 : Index := Scalar.indexCast v118
  let c944 : Index := 944#32
  ![v1124.toNat, 944]
def k1_off71 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1141 : Index := Scalar.indexCast v118
  let c960 : Index := 960#32
  ![v1141.toNat, 960]
def k1_off72 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1158 : Index := Scalar.indexCast v118
  let c976 : Index := 976#32
  ![v1158.toNat, 976]
def k1_off73 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1175 : Index := Scalar.indexCast v118
  let c992 : Index := 992#32
  ![v1175.toNat, 992]
def k1_off74 (k1_t2 : Fin k1_t2_loop.trips) : Fin 2 → Nat :=
  let c0_i32_137 : BitVec 32 := 0#32
  let c0_i32_55 : BitVec 32 := 0#32
  let c1_i32_57 : BitVec 32 := 1#32
  let arg33 : BitVec 32 := Scf.iv c0_i32_55 c1_i32_57 k1_t2
  let c1_i32_136 : BitVec 32 := 1#32
  let v117 : BitVec 32 := Scalar.muli arg33 c1_i32_136
  let v118 : BitVec 32 := Scalar.addi c0_i32_137 v117
  let v1192 : Index := Scalar.indexCast v118
  let c1008 : Index := 1008#32
  ![v1192.toNat, 1008]
def k1_off75 (i : grid1.Coords) (k1_t1 : Fin k1_t1_loop.trips) (c0_i32_42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_31 : BitVec 32 := 0#32
  let c1_i32 : BitVec 32 := 1#32
  let arg32 : BitVec 32 := Scf.iv c0_i32_31 c1_i32 k1_t1
  let c4_i32 : BitVec 32 := 4#32
  let v37 : BitVec 32 := Scalar.muli arg32 c4_i32
  let v38 : BitVec 32 := Scalar.addi v37 c0_i32_42
  let c8_i32_59 : BitVec 32 := 8#32
  let v49 : BitVec 32 := Scalar.muli v38 c8_i32_59
  let v50 : BitVec 32 := Scalar.addi v2 v49
  let c0_i32_60 : BitVec 32 := 0#32
  ![v50.toNat, 0]
def k1_cond2 (k1_t1 : Fin k1_t1_loop.trips) : BitVec 1 :=
  let c0_i32_31 : BitVec 32 := 0#32
  let c1_i32 : BitVec 32 := 1#32
  let arg32 : BitVec 32 := Scf.iv c0_i32_31 c1_i32 k1_t1
  let c4_i32 : BitVec 32 := 4#32
  let v37 : BitVec 32 := Scalar.muli arg32 c4_i32
  let c0_i32_42 : BitVec 32 := 0#32
  let v38 : BitVec 32 := Scalar.addi v37 c0_i32_42
  let c4_i32_62 : BitVec 32 := 4#32
  let v53 : BitVec 32 := Scalar.addi v38 c4_i32_62
  let c64_i32_63 : BitVec 32 := 64#32
  let v54 : BitVec 1 := Scalar.cmpi .slt v53 c64_i32_63
  let v55 : BitVec 32 := Scalar.extui v54
  let c0_i32_64 : BitVec 32 := 0#32
  let v56 : BitVec 1 := Scalar.cmpi .ne v55 c0_i32_64
  v56

def k1_off76 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_31 : BitVec 32 := 0#32
  let c1_i32 : BitVec 32 := 1#32
  let arg32 : BitVec 32 := Scf.iv c0_i32_31 c1_i32 k1_t1
  let c4_i32 : BitVec 32 := 4#32
  let v37 : BitVec 32 := Scalar.muli arg32 c4_i32
  let c0_i32_42 : BitVec 32 := 0#32
  let v38 : BitVec 32 := Scalar.addi v37 c0_i32_42
  let c4_i32_62 : BitVec 32 := 4#32
  let v53 : BitVec 32 := Scalar.addi v38 c4_i32_62
  let c8_i32_138 : BitVec 32 := 8#32
  let v119 : BitVec 32 := Scalar.muli v53 c8_i32_138
  let v120 : BitVec 32 := Scalar.addi v2 v119
  let c0_i32_139 : BitVec 32 := 0#32
  ![v120.toNat, 0]
def k1_off77 (k1_t1 : Fin k1_t1_loop.trips) : Fin 1 → Nat :=
  let c0_i32_31 : BitVec 32 := 0#32
  let c1_i32 : BitVec 32 := 1#32
  let arg32 : BitVec 32 := Scf.iv c0_i32_31 c1_i32 k1_t1
  let c4_i32 : BitVec 32 := 4#32
  let v37 : BitVec 32 := Scalar.muli arg32 c4_i32
  let c0_i32_42 : BitVec 32 := 0#32
  let v38 : BitVec 32 := Scalar.addi v37 c0_i32_42
  let c4_i32_62 : BitVec 32 := 4#32
  let v53 : BitVec 32 := Scalar.addi v38 c4_i32_62
  let c8_i32_136 : BitVec 32 := 8#32
  let v117 : BitVec 32 := Scalar.muli v53 c8_i32_136
  let c8_i32_137 : BitVec 32 := 8#32
  let v118 : BitVec 32 := Scalar.muli v117 c8_i32_137
  ![v118.toNat]
@[reducible] def k1_t3_loop : Scf.Loop 32 :=
  let c0_i32_79 : BitVec 32 := 0#32
  let c8_i32_80 : BitVec 32 := 8#32
  let v68 : BitVec 32 := Scalar.addi c0_i32_79 c8_i32_80
  let c1_i32_81 : BitVec 32 := 1#32
  ⟨c0_i32_79, v68, c1_i32_81⟩
def k1_off78 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v121 : Index := Scalar.indexCast v118
  let c0 : Index := 0#32
  ![v121.toNat, 0]
def k1_off79 (k1_t3 : Fin k1_t3_loop.trips) (c0_i32_139 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_138 : BitVec 32 := 8#32
  let v119 : BitVec 32 := Scalar.muli v118 c8_i32_138
  let v120 : BitVec 32 := Scalar.addi v119 c0_i32_139
  let v124 : Index := Scalar.indexCast v120
  let c0_140 : Index := 0#32
  ![v124.toNat, 0]
def k1_off80 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v138 : Index := Scalar.indexCast v118
  let c16 : Index := 16#32
  ![v138.toNat, 16]
def k1_off81 (k1_t3 : Fin k1_t3_loop.trips) (c0_i32_144 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_143 : BitVec 32 := 8#32
  let v136 : BitVec 32 := Scalar.muli v118 c8_i32_143
  let v137 : BitVec 32 := Scalar.addi v136 c0_i32_144
  let v141 : Index := Scalar.indexCast v137
  let c16_145 : Index := 16#32
  ![v141.toNat, 16]
def k1_off82 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v155 : Index := Scalar.indexCast v118
  let c32 : Index := 32#32
  ![v155.toNat, 32]
def k1_off83 (k1_t3 : Fin k1_t3_loop.trips) (c0_i32_149 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_148 : BitVec 32 := 8#32
  let v153 : BitVec 32 := Scalar.muli v118 c8_i32_148
  let v154 : BitVec 32 := Scalar.addi v153 c0_i32_149
  let v158 : Index := Scalar.indexCast v154
  let c32_150 : Index := 32#32
  ![v158.toNat, 32]
def k1_off84 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v172 : Index := Scalar.indexCast v118
  let c48 : Index := 48#32
  ![v172.toNat, 48]
def k1_off85 (k1_t3 : Fin k1_t3_loop.trips) (c0_i32_154 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_153 : BitVec 32 := 8#32
  let v170 : BitVec 32 := Scalar.muli v118 c8_i32_153
  let v171 : BitVec 32 := Scalar.addi v170 c0_i32_154
  let v175 : Index := Scalar.indexCast v171
  let c48_155 : Index := 48#32
  ![v175.toNat, 48]
def k1_off86 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v189 : Index := Scalar.indexCast v118
  let c64 : Index := 64#32
  ![v189.toNat, 64]
def k1_off87 (k1_t3 : Fin k1_t3_loop.trips) (c0_i32_159 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_158 : BitVec 32 := 8#32
  let v187 : BitVec 32 := Scalar.muli v118 c8_i32_158
  let v188 : BitVec 32 := Scalar.addi v187 c0_i32_159
  let v192 : Index := Scalar.indexCast v188
  let c64_160 : Index := 64#32
  ![v192.toNat, 64]
def k1_off88 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v206 : Index := Scalar.indexCast v118
  let c80 : Index := 80#32
  ![v206.toNat, 80]
def k1_off89 (k1_t3 : Fin k1_t3_loop.trips) (c0_i32_164 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_163 : BitVec 32 := 8#32
  let v204 : BitVec 32 := Scalar.muli v118 c8_i32_163
  let v205 : BitVec 32 := Scalar.addi v204 c0_i32_164
  let v209 : Index := Scalar.indexCast v205
  let c80_165 : Index := 80#32
  ![v209.toNat, 80]
def k1_off90 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v223 : Index := Scalar.indexCast v118
  let c96 : Index := 96#32
  ![v223.toNat, 96]
def k1_off91 (k1_t3 : Fin k1_t3_loop.trips) (c0_i32_169 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_168 : BitVec 32 := 8#32
  let v221 : BitVec 32 := Scalar.muli v118 c8_i32_168
  let v222 : BitVec 32 := Scalar.addi v221 c0_i32_169
  let v226 : Index := Scalar.indexCast v222
  let c96_170 : Index := 96#32
  ![v226.toNat, 96]
def k1_off92 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v240 : Index := Scalar.indexCast v118
  let c112 : Index := 112#32
  ![v240.toNat, 112]
def k1_off93 (k1_t3 : Fin k1_t3_loop.trips) (c0_i32_174 : BitVec 32) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let c8_i32_173 : BitVec 32 := 8#32
  let v238 : BitVec 32 := Scalar.muli v118 c8_i32_173
  let v239 : BitVec 32 := Scalar.addi v238 c0_i32_174
  let v243 : Index := Scalar.indexCast v239
  let c112_175 : Index := 112#32
  ![v243.toNat, 112]
def k1_off94 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v257 : Index := Scalar.indexCast v118
  let c128 : Index := 128#32
  ![v257.toNat, 128]
def k1_off95 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v274 : Index := Scalar.indexCast v118
  let c144 : Index := 144#32
  ![v274.toNat, 144]
def k1_off96 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v291 : Index := Scalar.indexCast v118
  let c160 : Index := 160#32
  ![v291.toNat, 160]
def k1_off97 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v308 : Index := Scalar.indexCast v118
  let c176 : Index := 176#32
  ![v308.toNat, 176]
def k1_off98 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v325 : Index := Scalar.indexCast v118
  let c192 : Index := 192#32
  ![v325.toNat, 192]
def k1_off99 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v342 : Index := Scalar.indexCast v118
  let c208 : Index := 208#32
  ![v342.toNat, 208]
def k1_off100 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v359 : Index := Scalar.indexCast v118
  let c224 : Index := 224#32
  ![v359.toNat, 224]
def k1_off101 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v376 : Index := Scalar.indexCast v118
  let c240 : Index := 240#32
  ![v376.toNat, 240]
def k1_off102 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v393 : Index := Scalar.indexCast v118
  let c256 : Index := 256#32
  ![v393.toNat, 256]
def k1_off103 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v410 : Index := Scalar.indexCast v118
  let c272 : Index := 272#32
  ![v410.toNat, 272]
def k1_off104 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v427 : Index := Scalar.indexCast v118
  let c288 : Index := 288#32
  ![v427.toNat, 288]
def k1_off105 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v444 : Index := Scalar.indexCast v118
  let c304 : Index := 304#32
  ![v444.toNat, 304]
def k1_off106 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v461 : Index := Scalar.indexCast v118
  let c320 : Index := 320#32
  ![v461.toNat, 320]
def k1_off107 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v478 : Index := Scalar.indexCast v118
  let c336 : Index := 336#32
  ![v478.toNat, 336]
def k1_off108 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v495 : Index := Scalar.indexCast v118
  let c352 : Index := 352#32
  ![v495.toNat, 352]
def k1_off109 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v512 : Index := Scalar.indexCast v118
  let c368 : Index := 368#32
  ![v512.toNat, 368]
def k1_off110 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v529 : Index := Scalar.indexCast v118
  let c384 : Index := 384#32
  ![v529.toNat, 384]
def k1_off111 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v546 : Index := Scalar.indexCast v118
  let c400 : Index := 400#32
  ![v546.toNat, 400]
def k1_off112 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v563 : Index := Scalar.indexCast v118
  let c416 : Index := 416#32
  ![v563.toNat, 416]
def k1_off113 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v580 : Index := Scalar.indexCast v118
  let c432 : Index := 432#32
  ![v580.toNat, 432]
def k1_off114 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v597 : Index := Scalar.indexCast v118
  let c448 : Index := 448#32
  ![v597.toNat, 448]
def k1_off115 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v614 : Index := Scalar.indexCast v118
  let c464 : Index := 464#32
  ![v614.toNat, 464]
def k1_off116 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v631 : Index := Scalar.indexCast v118
  let c480 : Index := 480#32
  ![v631.toNat, 480]
def k1_off117 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v648 : Index := Scalar.indexCast v118
  let c496 : Index := 496#32
  ![v648.toNat, 496]
def k1_off118 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v665 : Index := Scalar.indexCast v118
  let c512 : Index := 512#32
  ![v665.toNat, 512]
def k1_off119 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v682 : Index := Scalar.indexCast v118
  let c528 : Index := 528#32
  ![v682.toNat, 528]
def k1_off120 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v699 : Index := Scalar.indexCast v118
  let c544 : Index := 544#32
  ![v699.toNat, 544]
def k1_off121 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v716 : Index := Scalar.indexCast v118
  let c560 : Index := 560#32
  ![v716.toNat, 560]
def k1_off122 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v733 : Index := Scalar.indexCast v118
  let c576 : Index := 576#32
  ![v733.toNat, 576]
def k1_off123 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v750 : Index := Scalar.indexCast v118
  let c592 : Index := 592#32
  ![v750.toNat, 592]
def k1_off124 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v767 : Index := Scalar.indexCast v118
  let c608 : Index := 608#32
  ![v767.toNat, 608]
def k1_off125 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v784 : Index := Scalar.indexCast v118
  let c624 : Index := 624#32
  ![v784.toNat, 624]
def k1_off126 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v801 : Index := Scalar.indexCast v118
  let c640 : Index := 640#32
  ![v801.toNat, 640]
def k1_off127 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v818 : Index := Scalar.indexCast v118
  let c656 : Index := 656#32
  ![v818.toNat, 656]
def k1_off128 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v835 : Index := Scalar.indexCast v118
  let c672 : Index := 672#32
  ![v835.toNat, 672]
def k1_off129 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v852 : Index := Scalar.indexCast v118
  let c688 : Index := 688#32
  ![v852.toNat, 688]
def k1_off130 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v869 : Index := Scalar.indexCast v118
  let c704 : Index := 704#32
  ![v869.toNat, 704]
def k1_off131 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v886 : Index := Scalar.indexCast v118
  let c720 : Index := 720#32
  ![v886.toNat, 720]
def k1_off132 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v903 : Index := Scalar.indexCast v118
  let c736 : Index := 736#32
  ![v903.toNat, 736]
def k1_off133 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v920 : Index := Scalar.indexCast v118
  let c752 : Index := 752#32
  ![v920.toNat, 752]
def k1_off134 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v937 : Index := Scalar.indexCast v118
  let c768 : Index := 768#32
  ![v937.toNat, 768]
def k1_off135 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v954 : Index := Scalar.indexCast v118
  let c784 : Index := 784#32
  ![v954.toNat, 784]
def k1_off136 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v971 : Index := Scalar.indexCast v118
  let c800 : Index := 800#32
  ![v971.toNat, 800]
def k1_off137 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v988 : Index := Scalar.indexCast v118
  let c816 : Index := 816#32
  ![v988.toNat, 816]
def k1_off138 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1005 : Index := Scalar.indexCast v118
  let c832 : Index := 832#32
  ![v1005.toNat, 832]
def k1_off139 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1022 : Index := Scalar.indexCast v118
  let c848 : Index := 848#32
  ![v1022.toNat, 848]
def k1_off140 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1039 : Index := Scalar.indexCast v118
  let c864 : Index := 864#32
  ![v1039.toNat, 864]
def k1_off141 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1056 : Index := Scalar.indexCast v118
  let c880 : Index := 880#32
  ![v1056.toNat, 880]
def k1_off142 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1073 : Index := Scalar.indexCast v118
  let c896 : Index := 896#32
  ![v1073.toNat, 896]
def k1_off143 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1090 : Index := Scalar.indexCast v118
  let c912 : Index := 912#32
  ![v1090.toNat, 912]
def k1_off144 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1107 : Index := Scalar.indexCast v118
  let c928 : Index := 928#32
  ![v1107.toNat, 928]
def k1_off145 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1124 : Index := Scalar.indexCast v118
  let c944 : Index := 944#32
  ![v1124.toNat, 944]
def k1_off146 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1141 : Index := Scalar.indexCast v118
  let c960 : Index := 960#32
  ![v1141.toNat, 960]
def k1_off147 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1158 : Index := Scalar.indexCast v118
  let c976 : Index := 976#32
  ![v1158.toNat, 976]
def k1_off148 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1175 : Index := Scalar.indexCast v118
  let c992 : Index := 992#32
  ![v1175.toNat, 992]
def k1_off149 (k1_t3 : Fin k1_t3_loop.trips) : Fin 2 → Nat :=
  let c0_i32_137 : BitVec 32 := 0#32
  let c0_i32_79 : BitVec 32 := 0#32
  let c1_i32_81 : BitVec 32 := 1#32
  let arg33 : BitVec 32 := Scf.iv c0_i32_79 c1_i32_81 k1_t3
  let c1_i32_136 : BitVec 32 := 1#32
  let v117 : BitVec 32 := Scalar.muli arg33 c1_i32_136
  let v118 : BitVec 32 := Scalar.addi c0_i32_137 v117
  let v1192 : Index := Scalar.indexCast v118
  let c1008 : Index := 1008#32
  ![v1192.toNat, 1008]
def k1_cond4 (k1_t1 : Fin k1_t1_loop.trips) : BitVec 1 :=
  let c0_i32_31 : BitVec 32 := 0#32
  let c1_i32 : BitVec 32 := 1#32
  let arg32 : BitVec 32 := Scf.iv c0_i32_31 c1_i32 k1_t1
  let c4_i32_65 : BitVec 32 := 4#32
  let v57 : BitVec 32 := Scalar.muli arg32 c4_i32_65
  let c1_i32_66 : BitVec 32 := 1#32
  let v58 : BitVec 32 := Scalar.addi v57 c1_i32_66
  let c4_i32_86 : BitVec 32 := 4#32
  let v73 : BitVec 32 := Scalar.addi v58 c4_i32_86
  let c64_i32_87 : BitVec 32 := 64#32
  let v74 : BitVec 1 := Scalar.cmpi .slt v73 c64_i32_87
  let v75 : BitVec 32 := Scalar.extui v74
  let c0_i32_88 : BitVec 32 := 0#32
  let v76 : BitVec 1 := Scalar.cmpi .ne v75 c0_i32_88
  v76

def k1_off150 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_31 : BitVec 32 := 0#32
  let c1_i32 : BitVec 32 := 1#32
  let arg32 : BitVec 32 := Scf.iv c0_i32_31 c1_i32 k1_t1
  let c4_i32_65 : BitVec 32 := 4#32
  let v57 : BitVec 32 := Scalar.muli arg32 c4_i32_65
  let c1_i32_66 : BitVec 32 := 1#32
  let v58 : BitVec 32 := Scalar.addi v57 c1_i32_66
  let c4_i32_86 : BitVec 32 := 4#32
  let v73 : BitVec 32 := Scalar.addi v58 c4_i32_86
  let c8_i32_138 : BitVec 32 := 8#32
  let v119 : BitVec 32 := Scalar.muli v73 c8_i32_138
  let v120 : BitVec 32 := Scalar.addi v2 v119
  let c0_i32_139 : BitVec 32 := 0#32
  ![v120.toNat, 0]
def k1_off151 (k1_t1 : Fin k1_t1_loop.trips) : Fin 1 → Nat :=
  let c0_i32_31 : BitVec 32 := 0#32
  let c1_i32 : BitVec 32 := 1#32
  let arg32 : BitVec 32 := Scf.iv c0_i32_31 c1_i32 k1_t1
  let c4_i32_65 : BitVec 32 := 4#32
  let v57 : BitVec 32 := Scalar.muli arg32 c4_i32_65
  let c1_i32_66 : BitVec 32 := 1#32
  let v58 : BitVec 32 := Scalar.addi v57 c1_i32_66
  let c4_i32_86 : BitVec 32 := 4#32
  let v73 : BitVec 32 := Scalar.addi v58 c4_i32_86
  let c8_i32_136 : BitVec 32 := 8#32
  let v117 : BitVec 32 := Scalar.muli v73 c8_i32_136
  let c8_i32_137 : BitVec 32 := 8#32
  let v118 : BitVec 32 := Scalar.muli v117 c8_i32_137
  ![v118.toNat]
@[reducible] def k1_t4_loop : Scf.Loop 32 :=
  let c0_i32_103 : BitVec 32 := 0#32
  let c8_i32_104 : BitVec 32 := 8#32
  let v88 : BitVec 32 := Scalar.addi c0_i32_103 c8_i32_104
  let c1_i32_105 : BitVec 32 := 1#32
  ⟨c0_i32_103, v88, c1_i32_105⟩
def k1_off152 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v121 : Index := Scalar.indexCast v118
  let c0 : Index := 0#32
  ![v121.toNat, 0]
def k1_off153 (k1_t4 : Fin k1_t4_loop.trips) (c0_i32_139 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_138 : BitVec 32 := 8#32
  let v119 : BitVec 32 := Scalar.muli v118 c8_i32_138
  let v120 : BitVec 32 := Scalar.addi v119 c0_i32_139
  let v124 : Index := Scalar.indexCast v120
  let c0_140 : Index := 0#32
  ![v124.toNat, 0]
def k1_off154 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v138 : Index := Scalar.indexCast v118
  let c16 : Index := 16#32
  ![v138.toNat, 16]
def k1_off155 (k1_t4 : Fin k1_t4_loop.trips) (c0_i32_144 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_143 : BitVec 32 := 8#32
  let v136 : BitVec 32 := Scalar.muli v118 c8_i32_143
  let v137 : BitVec 32 := Scalar.addi v136 c0_i32_144
  let v141 : Index := Scalar.indexCast v137
  let c16_145 : Index := 16#32
  ![v141.toNat, 16]
def k1_off156 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v155 : Index := Scalar.indexCast v118
  let c32 : Index := 32#32
  ![v155.toNat, 32]
def k1_off157 (k1_t4 : Fin k1_t4_loop.trips) (c0_i32_149 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_148 : BitVec 32 := 8#32
  let v153 : BitVec 32 := Scalar.muli v118 c8_i32_148
  let v154 : BitVec 32 := Scalar.addi v153 c0_i32_149
  let v158 : Index := Scalar.indexCast v154
  let c32_150 : Index := 32#32
  ![v158.toNat, 32]
def k1_off158 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v172 : Index := Scalar.indexCast v118
  let c48 : Index := 48#32
  ![v172.toNat, 48]
def k1_off159 (k1_t4 : Fin k1_t4_loop.trips) (c0_i32_154 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_153 : BitVec 32 := 8#32
  let v170 : BitVec 32 := Scalar.muli v118 c8_i32_153
  let v171 : BitVec 32 := Scalar.addi v170 c0_i32_154
  let v175 : Index := Scalar.indexCast v171
  let c48_155 : Index := 48#32
  ![v175.toNat, 48]
def k1_off160 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v189 : Index := Scalar.indexCast v118
  let c64 : Index := 64#32
  ![v189.toNat, 64]
def k1_off161 (k1_t4 : Fin k1_t4_loop.trips) (c0_i32_159 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_158 : BitVec 32 := 8#32
  let v187 : BitVec 32 := Scalar.muli v118 c8_i32_158
  let v188 : BitVec 32 := Scalar.addi v187 c0_i32_159
  let v192 : Index := Scalar.indexCast v188
  let c64_160 : Index := 64#32
  ![v192.toNat, 64]
def k1_off162 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v206 : Index := Scalar.indexCast v118
  let c80 : Index := 80#32
  ![v206.toNat, 80]
def k1_off163 (k1_t4 : Fin k1_t4_loop.trips) (c0_i32_164 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_163 : BitVec 32 := 8#32
  let v204 : BitVec 32 := Scalar.muli v118 c8_i32_163
  let v205 : BitVec 32 := Scalar.addi v204 c0_i32_164
  let v209 : Index := Scalar.indexCast v205
  let c80_165 : Index := 80#32
  ![v209.toNat, 80]
def k1_off164 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v223 : Index := Scalar.indexCast v118
  let c96 : Index := 96#32
  ![v223.toNat, 96]
def k1_off165 (k1_t4 : Fin k1_t4_loop.trips) (c0_i32_169 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_168 : BitVec 32 := 8#32
  let v221 : BitVec 32 := Scalar.muli v118 c8_i32_168
  let v222 : BitVec 32 := Scalar.addi v221 c0_i32_169
  let v226 : Index := Scalar.indexCast v222
  let c96_170 : Index := 96#32
  ![v226.toNat, 96]
def k1_off166 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v240 : Index := Scalar.indexCast v118
  let c112 : Index := 112#32
  ![v240.toNat, 112]
def k1_off167 (k1_t4 : Fin k1_t4_loop.trips) (c0_i32_174 : BitVec 32) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let c8_i32_173 : BitVec 32 := 8#32
  let v238 : BitVec 32 := Scalar.muli v118 c8_i32_173
  let v239 : BitVec 32 := Scalar.addi v238 c0_i32_174
  let v243 : Index := Scalar.indexCast v239
  let c112_175 : Index := 112#32
  ![v243.toNat, 112]
def k1_off168 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v257 : Index := Scalar.indexCast v118
  let c128 : Index := 128#32
  ![v257.toNat, 128]
def k1_off169 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v274 : Index := Scalar.indexCast v118
  let c144 : Index := 144#32
  ![v274.toNat, 144]
def k1_off170 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v291 : Index := Scalar.indexCast v118
  let c160 : Index := 160#32
  ![v291.toNat, 160]
def k1_off171 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v308 : Index := Scalar.indexCast v118
  let c176 : Index := 176#32
  ![v308.toNat, 176]
def k1_off172 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v325 : Index := Scalar.indexCast v118
  let c192 : Index := 192#32
  ![v325.toNat, 192]
def k1_off173 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v342 : Index := Scalar.indexCast v118
  let c208 : Index := 208#32
  ![v342.toNat, 208]
def k1_off174 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v359 : Index := Scalar.indexCast v118
  let c224 : Index := 224#32
  ![v359.toNat, 224]
def k1_off175 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v376 : Index := Scalar.indexCast v118
  let c240 : Index := 240#32
  ![v376.toNat, 240]
def k1_off176 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v393 : Index := Scalar.indexCast v118
  let c256 : Index := 256#32
  ![v393.toNat, 256]
def k1_off177 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v410 : Index := Scalar.indexCast v118
  let c272 : Index := 272#32
  ![v410.toNat, 272]
def k1_off178 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v427 : Index := Scalar.indexCast v118
  let c288 : Index := 288#32
  ![v427.toNat, 288]
def k1_off179 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v444 : Index := Scalar.indexCast v118
  let c304 : Index := 304#32
  ![v444.toNat, 304]
def k1_off180 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v461 : Index := Scalar.indexCast v118
  let c320 : Index := 320#32
  ![v461.toNat, 320]
def k1_off181 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v478 : Index := Scalar.indexCast v118
  let c336 : Index := 336#32
  ![v478.toNat, 336]
def k1_off182 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v495 : Index := Scalar.indexCast v118
  let c352 : Index := 352#32
  ![v495.toNat, 352]
def k1_off183 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v512 : Index := Scalar.indexCast v118
  let c368 : Index := 368#32
  ![v512.toNat, 368]
def k1_off184 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v529 : Index := Scalar.indexCast v118
  let c384 : Index := 384#32
  ![v529.toNat, 384]
def k1_off185 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v546 : Index := Scalar.indexCast v118
  let c400 : Index := 400#32
  ![v546.toNat, 400]
def k1_off186 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v563 : Index := Scalar.indexCast v118
  let c416 : Index := 416#32
  ![v563.toNat, 416]
def k1_off187 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v580 : Index := Scalar.indexCast v118
  let c432 : Index := 432#32
  ![v580.toNat, 432]
def k1_off188 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v597 : Index := Scalar.indexCast v118
  let c448 : Index := 448#32
  ![v597.toNat, 448]
def k1_off189 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v614 : Index := Scalar.indexCast v118
  let c464 : Index := 464#32
  ![v614.toNat, 464]
def k1_off190 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v631 : Index := Scalar.indexCast v118
  let c480 : Index := 480#32
  ![v631.toNat, 480]
def k1_off191 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v648 : Index := Scalar.indexCast v118
  let c496 : Index := 496#32
  ![v648.toNat, 496]
def k1_off192 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v665 : Index := Scalar.indexCast v118
  let c512 : Index := 512#32
  ![v665.toNat, 512]
def k1_off193 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v682 : Index := Scalar.indexCast v118
  let c528 : Index := 528#32
  ![v682.toNat, 528]
def k1_off194 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v699 : Index := Scalar.indexCast v118
  let c544 : Index := 544#32
  ![v699.toNat, 544]
def k1_off195 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v716 : Index := Scalar.indexCast v118
  let c560 : Index := 560#32
  ![v716.toNat, 560]
def k1_off196 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v733 : Index := Scalar.indexCast v118
  let c576 : Index := 576#32
  ![v733.toNat, 576]
def k1_off197 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v750 : Index := Scalar.indexCast v118
  let c592 : Index := 592#32
  ![v750.toNat, 592]
def k1_off198 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v767 : Index := Scalar.indexCast v118
  let c608 : Index := 608#32
  ![v767.toNat, 608]
def k1_off199 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v784 : Index := Scalar.indexCast v118
  let c624 : Index := 624#32
  ![v784.toNat, 624]
def k1_off200 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v801 : Index := Scalar.indexCast v118
  let c640 : Index := 640#32
  ![v801.toNat, 640]
def k1_off201 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v818 : Index := Scalar.indexCast v118
  let c656 : Index := 656#32
  ![v818.toNat, 656]
def k1_off202 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v835 : Index := Scalar.indexCast v118
  let c672 : Index := 672#32
  ![v835.toNat, 672]
def k1_off203 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v852 : Index := Scalar.indexCast v118
  let c688 : Index := 688#32
  ![v852.toNat, 688]
def k1_off204 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v869 : Index := Scalar.indexCast v118
  let c704 : Index := 704#32
  ![v869.toNat, 704]
def k1_off205 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v886 : Index := Scalar.indexCast v118
  let c720 : Index := 720#32
  ![v886.toNat, 720]
def k1_off206 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v903 : Index := Scalar.indexCast v118
  let c736 : Index := 736#32
  ![v903.toNat, 736]
def k1_off207 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v920 : Index := Scalar.indexCast v118
  let c752 : Index := 752#32
  ![v920.toNat, 752]
def k1_off208 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v937 : Index := Scalar.indexCast v118
  let c768 : Index := 768#32
  ![v937.toNat, 768]
def k1_off209 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v954 : Index := Scalar.indexCast v118
  let c784 : Index := 784#32
  ![v954.toNat, 784]
def k1_off210 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v971 : Index := Scalar.indexCast v118
  let c800 : Index := 800#32
  ![v971.toNat, 800]
def k1_off211 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v988 : Index := Scalar.indexCast v118
  let c816 : Index := 816#32
  ![v988.toNat, 816]
def k1_off212 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1005 : Index := Scalar.indexCast v118
  let c832 : Index := 832#32
  ![v1005.toNat, 832]
def k1_off213 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1022 : Index := Scalar.indexCast v118
  let c848 : Index := 848#32
  ![v1022.toNat, 848]
def k1_off214 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1039 : Index := Scalar.indexCast v118
  let c864 : Index := 864#32
  ![v1039.toNat, 864]
def k1_off215 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1056 : Index := Scalar.indexCast v118
  let c880 : Index := 880#32
  ![v1056.toNat, 880]
def k1_off216 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1073 : Index := Scalar.indexCast v118
  let c896 : Index := 896#32
  ![v1073.toNat, 896]
def k1_off217 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1090 : Index := Scalar.indexCast v118
  let c912 : Index := 912#32
  ![v1090.toNat, 912]
def k1_off218 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1107 : Index := Scalar.indexCast v118
  let c928 : Index := 928#32
  ![v1107.toNat, 928]
def k1_off219 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1124 : Index := Scalar.indexCast v118
  let c944 : Index := 944#32
  ![v1124.toNat, 944]
def k1_off220 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1141 : Index := Scalar.indexCast v118
  let c960 : Index := 960#32
  ![v1141.toNat, 960]
def k1_off221 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1158 : Index := Scalar.indexCast v118
  let c976 : Index := 976#32
  ![v1158.toNat, 976]
def k1_off222 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1175 : Index := Scalar.indexCast v118
  let c992 : Index := 992#32
  ![v1175.toNat, 992]
def k1_off223 (k1_t4 : Fin k1_t4_loop.trips) : Fin 2 → Nat :=
  let c0_i32_137 : BitVec 32 := 0#32
  let c0_i32_103 : BitVec 32 := 0#32
  let c1_i32_105 : BitVec 32 := 1#32
  let arg33 : BitVec 32 := Scf.iv c0_i32_103 c1_i32_105 k1_t4
  let c1_i32_136 : BitVec 32 := 1#32
  let v117 : BitVec 32 := Scalar.muli arg33 c1_i32_136
  let v118 : BitVec 32 := Scalar.addi c0_i32_137 v117
  let v1192 : Index := Scalar.indexCast v118
  let c1008 : Index := 1008#32
  ![v1192.toNat, 1008]
def k1_cond6 (k1_t1 : Fin k1_t1_loop.trips) : BitVec 1 :=
  let c0_i32_31 : BitVec 32 := 0#32
  let c1_i32 : BitVec 32 := 1#32
  let arg32 : BitVec 32 := Scf.iv c0_i32_31 c1_i32 k1_t1
  let c4_i32_89 : BitVec 32 := 4#32
  let v77 : BitVec 32 := Scalar.muli arg32 c4_i32_89
  let c2_i32_90 : BitVec 32 := 2#32
  let v78 : BitVec 32 := Scalar.addi v77 c2_i32_90
  let c4_i32_110 : BitVec 32 := 4#32
  let v93 : BitVec 32 := Scalar.addi v78 c4_i32_110
  let c64_i32_111 : BitVec 32 := 64#32
  let v94 : BitVec 1 := Scalar.cmpi .slt v93 c64_i32_111
  let v95 : BitVec 32 := Scalar.extui v94
  let c0_i32_112 : BitVec 32 := 0#32
  let v96 : BitVec 1 := Scalar.cmpi .ne v95 c0_i32_112
  v96

def k1_off224 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_31 : BitVec 32 := 0#32
  let c1_i32 : BitVec 32 := 1#32
  let arg32 : BitVec 32 := Scf.iv c0_i32_31 c1_i32 k1_t1
  let c4_i32_89 : BitVec 32 := 4#32
  let v77 : BitVec 32 := Scalar.muli arg32 c4_i32_89
  let c2_i32_90 : BitVec 32 := 2#32
  let v78 : BitVec 32 := Scalar.addi v77 c2_i32_90
  let c4_i32_110 : BitVec 32 := 4#32
  let v93 : BitVec 32 := Scalar.addi v78 c4_i32_110
  let c8_i32_138 : BitVec 32 := 8#32
  let v119 : BitVec 32 := Scalar.muli v93 c8_i32_138
  let v120 : BitVec 32 := Scalar.addi v2 v119
  let c0_i32_139 : BitVec 32 := 0#32
  ![v120.toNat, 0]
def k1_off225 (k1_t1 : Fin k1_t1_loop.trips) : Fin 1 → Nat :=
  let c0_i32_31 : BitVec 32 := 0#32
  let c1_i32 : BitVec 32 := 1#32
  let arg32 : BitVec 32 := Scf.iv c0_i32_31 c1_i32 k1_t1
  let c4_i32_89 : BitVec 32 := 4#32
  let v77 : BitVec 32 := Scalar.muli arg32 c4_i32_89
  let c2_i32_90 : BitVec 32 := 2#32
  let v78 : BitVec 32 := Scalar.addi v77 c2_i32_90
  let c4_i32_110 : BitVec 32 := 4#32
  let v93 : BitVec 32 := Scalar.addi v78 c4_i32_110
  let c8_i32_136 : BitVec 32 := 8#32
  let v117 : BitVec 32 := Scalar.muli v93 c8_i32_136
  let c8_i32_137 : BitVec 32 := 8#32
  let v118 : BitVec 32 := Scalar.muli v117 c8_i32_137
  ![v118.toNat]
@[reducible] def k1_t5_loop : Scf.Loop 32 :=
  let c0_i32_126 : BitVec 32 := 0#32
  let c8_i32_127 : BitVec 32 := 8#32
  let v108 : BitVec 32 := Scalar.addi c0_i32_126 c8_i32_127
  let c1_i32_128 : BitVec 32 := 1#32
  ⟨c0_i32_126, v108, c1_i32_128⟩
def k1_off226 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v121 : Index := Scalar.indexCast v118
  let c0 : Index := 0#32
  ![v121.toNat, 0]
def k1_off227 (k1_t5 : Fin k1_t5_loop.trips) (c0_i32_139 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_138 : BitVec 32 := 8#32
  let v119 : BitVec 32 := Scalar.muli v118 c8_i32_138
  let v120 : BitVec 32 := Scalar.addi v119 c0_i32_139
  let v124 : Index := Scalar.indexCast v120
  let c0_140 : Index := 0#32
  ![v124.toNat, 0]
def k1_off228 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v138 : Index := Scalar.indexCast v118
  let c16 : Index := 16#32
  ![v138.toNat, 16]
def k1_off229 (k1_t5 : Fin k1_t5_loop.trips) (c0_i32_144 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_143 : BitVec 32 := 8#32
  let v136 : BitVec 32 := Scalar.muli v118 c8_i32_143
  let v137 : BitVec 32 := Scalar.addi v136 c0_i32_144
  let v141 : Index := Scalar.indexCast v137
  let c16_145 : Index := 16#32
  ![v141.toNat, 16]
def k1_off230 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v155 : Index := Scalar.indexCast v118
  let c32 : Index := 32#32
  ![v155.toNat, 32]
def k1_off231 (k1_t5 : Fin k1_t5_loop.trips) (c0_i32_149 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_148 : BitVec 32 := 8#32
  let v153 : BitVec 32 := Scalar.muli v118 c8_i32_148
  let v154 : BitVec 32 := Scalar.addi v153 c0_i32_149
  let v158 : Index := Scalar.indexCast v154
  let c32_150 : Index := 32#32
  ![v158.toNat, 32]
def k1_off232 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v172 : Index := Scalar.indexCast v118
  let c48 : Index := 48#32
  ![v172.toNat, 48]
def k1_off233 (k1_t5 : Fin k1_t5_loop.trips) (c0_i32_154 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_153 : BitVec 32 := 8#32
  let v170 : BitVec 32 := Scalar.muli v118 c8_i32_153
  let v171 : BitVec 32 := Scalar.addi v170 c0_i32_154
  let v175 : Index := Scalar.indexCast v171
  let c48_155 : Index := 48#32
  ![v175.toNat, 48]
def k1_off234 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v189 : Index := Scalar.indexCast v118
  let c64 : Index := 64#32
  ![v189.toNat, 64]
def k1_off235 (k1_t5 : Fin k1_t5_loop.trips) (c0_i32_159 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_158 : BitVec 32 := 8#32
  let v187 : BitVec 32 := Scalar.muli v118 c8_i32_158
  let v188 : BitVec 32 := Scalar.addi v187 c0_i32_159
  let v192 : Index := Scalar.indexCast v188
  let c64_160 : Index := 64#32
  ![v192.toNat, 64]
def k1_off236 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v206 : Index := Scalar.indexCast v118
  let c80 : Index := 80#32
  ![v206.toNat, 80]
def k1_off237 (k1_t5 : Fin k1_t5_loop.trips) (c0_i32_164 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_163 : BitVec 32 := 8#32
  let v204 : BitVec 32 := Scalar.muli v118 c8_i32_163
  let v205 : BitVec 32 := Scalar.addi v204 c0_i32_164
  let v209 : Index := Scalar.indexCast v205
  let c80_165 : Index := 80#32
  ![v209.toNat, 80]
def k1_off238 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v223 : Index := Scalar.indexCast v118
  let c96 : Index := 96#32
  ![v223.toNat, 96]
def k1_off239 (k1_t5 : Fin k1_t5_loop.trips) (c0_i32_169 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_168 : BitVec 32 := 8#32
  let v221 : BitVec 32 := Scalar.muli v118 c8_i32_168
  let v222 : BitVec 32 := Scalar.addi v221 c0_i32_169
  let v226 : Index := Scalar.indexCast v222
  let c96_170 : Index := 96#32
  ![v226.toNat, 96]
def k1_off240 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v240 : Index := Scalar.indexCast v118
  let c112 : Index := 112#32
  ![v240.toNat, 112]
def k1_off241 (k1_t5 : Fin k1_t5_loop.trips) (c0_i32_174 : BitVec 32) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let c8_i32_173 : BitVec 32 := 8#32
  let v238 : BitVec 32 := Scalar.muli v118 c8_i32_173
  let v239 : BitVec 32 := Scalar.addi v238 c0_i32_174
  let v243 : Index := Scalar.indexCast v239
  let c112_175 : Index := 112#32
  ![v243.toNat, 112]
def k1_off242 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v257 : Index := Scalar.indexCast v118
  let c128 : Index := 128#32
  ![v257.toNat, 128]
def k1_off243 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v274 : Index := Scalar.indexCast v118
  let c144 : Index := 144#32
  ![v274.toNat, 144]
def k1_off244 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v291 : Index := Scalar.indexCast v118
  let c160 : Index := 160#32
  ![v291.toNat, 160]
def k1_off245 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v308 : Index := Scalar.indexCast v118
  let c176 : Index := 176#32
  ![v308.toNat, 176]
def k1_off246 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v325 : Index := Scalar.indexCast v118
  let c192 : Index := 192#32
  ![v325.toNat, 192]
def k1_off247 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v342 : Index := Scalar.indexCast v118
  let c208 : Index := 208#32
  ![v342.toNat, 208]
def k1_off248 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v359 : Index := Scalar.indexCast v118
  let c224 : Index := 224#32
  ![v359.toNat, 224]
def k1_off249 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v376 : Index := Scalar.indexCast v118
  let c240 : Index := 240#32
  ![v376.toNat, 240]
def k1_off250 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v393 : Index := Scalar.indexCast v118
  let c256 : Index := 256#32
  ![v393.toNat, 256]
def k1_off251 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v410 : Index := Scalar.indexCast v118
  let c272 : Index := 272#32
  ![v410.toNat, 272]
def k1_off252 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v427 : Index := Scalar.indexCast v118
  let c288 : Index := 288#32
  ![v427.toNat, 288]
def k1_off253 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v444 : Index := Scalar.indexCast v118
  let c304 : Index := 304#32
  ![v444.toNat, 304]
def k1_off254 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v461 : Index := Scalar.indexCast v118
  let c320 : Index := 320#32
  ![v461.toNat, 320]
def k1_off255 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v478 : Index := Scalar.indexCast v118
  let c336 : Index := 336#32
  ![v478.toNat, 336]
def k1_off256 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v495 : Index := Scalar.indexCast v118
  let c352 : Index := 352#32
  ![v495.toNat, 352]
def k1_off257 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v512 : Index := Scalar.indexCast v118
  let c368 : Index := 368#32
  ![v512.toNat, 368]
def k1_off258 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v529 : Index := Scalar.indexCast v118
  let c384 : Index := 384#32
  ![v529.toNat, 384]
def k1_off259 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v546 : Index := Scalar.indexCast v118
  let c400 : Index := 400#32
  ![v546.toNat, 400]
def k1_off260 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v563 : Index := Scalar.indexCast v118
  let c416 : Index := 416#32
  ![v563.toNat, 416]
def k1_off261 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v580 : Index := Scalar.indexCast v118
  let c432 : Index := 432#32
  ![v580.toNat, 432]
def k1_off262 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v597 : Index := Scalar.indexCast v118
  let c448 : Index := 448#32
  ![v597.toNat, 448]
def k1_off263 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v614 : Index := Scalar.indexCast v118
  let c464 : Index := 464#32
  ![v614.toNat, 464]
def k1_off264 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v631 : Index := Scalar.indexCast v118
  let c480 : Index := 480#32
  ![v631.toNat, 480]
def k1_off265 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v648 : Index := Scalar.indexCast v118
  let c496 : Index := 496#32
  ![v648.toNat, 496]
def k1_off266 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v665 : Index := Scalar.indexCast v118
  let c512 : Index := 512#32
  ![v665.toNat, 512]
def k1_off267 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v682 : Index := Scalar.indexCast v118
  let c528 : Index := 528#32
  ![v682.toNat, 528]
def k1_off268 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v699 : Index := Scalar.indexCast v118
  let c544 : Index := 544#32
  ![v699.toNat, 544]
def k1_off269 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v716 : Index := Scalar.indexCast v118
  let c560 : Index := 560#32
  ![v716.toNat, 560]
def k1_off270 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v733 : Index := Scalar.indexCast v118
  let c576 : Index := 576#32
  ![v733.toNat, 576]
def k1_off271 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v750 : Index := Scalar.indexCast v118
  let c592 : Index := 592#32
  ![v750.toNat, 592]
def k1_off272 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v767 : Index := Scalar.indexCast v118
  let c608 : Index := 608#32
  ![v767.toNat, 608]
def k1_off273 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v784 : Index := Scalar.indexCast v118
  let c624 : Index := 624#32
  ![v784.toNat, 624]
def k1_off274 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v801 : Index := Scalar.indexCast v118
  let c640 : Index := 640#32
  ![v801.toNat, 640]
def k1_off275 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v818 : Index := Scalar.indexCast v118
  let c656 : Index := 656#32
  ![v818.toNat, 656]
def k1_off276 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v835 : Index := Scalar.indexCast v118
  let c672 : Index := 672#32
  ![v835.toNat, 672]
def k1_off277 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v852 : Index := Scalar.indexCast v118
  let c688 : Index := 688#32
  ![v852.toNat, 688]
def k1_off278 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v869 : Index := Scalar.indexCast v118
  let c704 : Index := 704#32
  ![v869.toNat, 704]
def k1_off279 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v886 : Index := Scalar.indexCast v118
  let c720 : Index := 720#32
  ![v886.toNat, 720]
def k1_off280 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v903 : Index := Scalar.indexCast v118
  let c736 : Index := 736#32
  ![v903.toNat, 736]
def k1_off281 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v920 : Index := Scalar.indexCast v118
  let c752 : Index := 752#32
  ![v920.toNat, 752]
def k1_off282 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v937 : Index := Scalar.indexCast v118
  let c768 : Index := 768#32
  ![v937.toNat, 768]
def k1_off283 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v954 : Index := Scalar.indexCast v118
  let c784 : Index := 784#32
  ![v954.toNat, 784]
def k1_off284 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v971 : Index := Scalar.indexCast v118
  let c800 : Index := 800#32
  ![v971.toNat, 800]
def k1_off285 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v988 : Index := Scalar.indexCast v118
  let c816 : Index := 816#32
  ![v988.toNat, 816]
def k1_off286 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1005 : Index := Scalar.indexCast v118
  let c832 : Index := 832#32
  ![v1005.toNat, 832]
def k1_off287 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1022 : Index := Scalar.indexCast v118
  let c848 : Index := 848#32
  ![v1022.toNat, 848]
def k1_off288 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1039 : Index := Scalar.indexCast v118
  let c864 : Index := 864#32
  ![v1039.toNat, 864]
def k1_off289 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1056 : Index := Scalar.indexCast v118
  let c880 : Index := 880#32
  ![v1056.toNat, 880]
def k1_off290 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1073 : Index := Scalar.indexCast v118
  let c896 : Index := 896#32
  ![v1073.toNat, 896]
def k1_off291 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1090 : Index := Scalar.indexCast v118
  let c912 : Index := 912#32
  ![v1090.toNat, 912]
def k1_off292 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1107 : Index := Scalar.indexCast v118
  let c928 : Index := 928#32
  ![v1107.toNat, 928]
def k1_off293 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1124 : Index := Scalar.indexCast v118
  let c944 : Index := 944#32
  ![v1124.toNat, 944]
def k1_off294 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1141 : Index := Scalar.indexCast v118
  let c960 : Index := 960#32
  ![v1141.toNat, 960]
def k1_off295 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1158 : Index := Scalar.indexCast v118
  let c976 : Index := 976#32
  ![v1158.toNat, 976]
def k1_off296 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1175 : Index := Scalar.indexCast v118
  let c992 : Index := 992#32
  ![v1175.toNat, 992]
def k1_off297 (k1_t5 : Fin k1_t5_loop.trips) : Fin 2 → Nat :=
  let c0_i32_137 : BitVec 32 := 0#32
  let c0_i32_126 : BitVec 32 := 0#32
  let c1_i32_128 : BitVec 32 := 1#32
  let arg33 : BitVec 32 := Scf.iv c0_i32_126 c1_i32_128 k1_t5
  let c1_i32_136 : BitVec 32 := 1#32
  let v117 : BitVec 32 := Scalar.muli arg33 c1_i32_136
  let v118 : BitVec 32 := Scalar.addi c0_i32_137 v117
  let v1192 : Index := Scalar.indexCast v118
  let c1008 : Index := 1008#32
  ![v1192.toNat, 1008]
def k1_cond8 (k1_t1 : Fin k1_t1_loop.trips) : BitVec 1 :=
  let c0_i32_31 : BitVec 32 := 0#32
  let c1_i32 : BitVec 32 := 1#32
  let arg32 : BitVec 32 := Scf.iv c0_i32_31 c1_i32 k1_t1
  let c4_i32_113 : BitVec 32 := 4#32
  let v97 : BitVec 32 := Scalar.muli arg32 c4_i32_113
  let c3_i32 : BitVec 32 := 3#32
  let v98 : BitVec 32 := Scalar.addi v97 c3_i32
  let c4_i32_133 : BitVec 32 := 4#32
  let v113 : BitVec 32 := Scalar.addi v98 c4_i32_133
  let c64_i32_134 : BitVec 32 := 64#32
  let v114 : BitVec 1 := Scalar.cmpi .slt v113 c64_i32_134
  let v115 : BitVec 32 := Scalar.extui v114
  let c0_i32_135 : BitVec 32 := 0#32
  let v116 : BitVec 1 := Scalar.cmpi .ne v115 c0_i32_135
  v116

def k1_off298 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_31 : BitVec 32 := 0#32
  let c1_i32 : BitVec 32 := 1#32
  let arg32 : BitVec 32 := Scf.iv c0_i32_31 c1_i32 k1_t1
  let c4_i32_113 : BitVec 32 := 4#32
  let v97 : BitVec 32 := Scalar.muli arg32 c4_i32_113
  let c3_i32 : BitVec 32 := 3#32
  let v98 : BitVec 32 := Scalar.addi v97 c3_i32
  let c4_i32_133 : BitVec 32 := 4#32
  let v113 : BitVec 32 := Scalar.addi v98 c4_i32_133
  let c8_i32_138 : BitVec 32 := 8#32
  let v119 : BitVec 32 := Scalar.muli v113 c8_i32_138
  let v120 : BitVec 32 := Scalar.addi v2 v119
  let c0_i32_139 : BitVec 32 := 0#32
  ![v120.toNat, 0]
def k1_off299 (k1_t1 : Fin k1_t1_loop.trips) : Fin 1 → Nat :=
  let c0_i32_31 : BitVec 32 := 0#32
  let c1_i32 : BitVec 32 := 1#32
  let arg32 : BitVec 32 := Scf.iv c0_i32_31 c1_i32 k1_t1
  let c4_i32_113 : BitVec 32 := 4#32
  let v97 : BitVec 32 := Scalar.muli arg32 c4_i32_113
  let c3_i32 : BitVec 32 := 3#32
  let v98 : BitVec 32 := Scalar.addi v97 c3_i32
  let c4_i32_133 : BitVec 32 := 4#32
  let v113 : BitVec 32 := Scalar.addi v98 c4_i32_133
  let c8_i32_136 : BitVec 32 := 8#32
  let v117 : BitVec 32 := Scalar.muli v113 c8_i32_136
  let c8_i32_137 : BitVec 32 := 8#32
  let v118 : BitVec 32 := Scalar.muli v117 c8_i32_137
  ![v118.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1024 : Shape := ⟨2, ![16384, 1024]⟩
abbrev S16384 : Shape := ⟨1, ![16384]⟩
abbrev S64x1024 : Shape := ⟨2, ![64, 1024]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S64x1024, .f32⟩
  | .hbm, ⟨3, _⟩ => ⟨S64x1024, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x1024, .f32⟩
  | .hbm, ⟨23, _⟩ => ⟨S16384x1024, .i1⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x1024, .f32⟩
  | .hbm, ⟨46, _⟩ => ⟨S16384x1024, .i1⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩

abbrev nD : Nat := 1
abbrev τ : Topo := Topo.v7x

variable {F : FTy → Type} [FloatOps F]
-- ==== Proof.Row.lean ====
/-
  One row of the kernel's work, as the kernel spells it: sixty-four lanes of sixteen columns each.
-/
module

public import proofs.«01_k».proof.KernelIdeal

@[expose] public section

noncomputable section

namespace Cert.Proof

open Cert.KernelIdeal Idealize.ShloMosaic Idealize.SL.Sem
open Cert.KernelIdeal.Facts₀ Cert.KernelIdeal.Facts

variable {F : FTy → Type} [FloatOps F] [Cert.KernelIdeal.Facts]

/-- The processor a task runs on. -/
abbrev proc (i : grid1.Coords) : Proc τ := .scVector ((i 0).castLE hcore1) ((i 1).castLE hsub1)

/-- Sixteen columns of one row lie inside a gathered block. -/
theorem inTab (v j : Nat) (hv : v < 64) (hj : j < 64) :
    ∀ a, (![v, 16 * (j % 8)] : Fin 2 → Nat) a + S1x16.size a ≤ S64x128.size a := by
  intro a; match a with
  | 0 => show v + 1 ≤ 64; omega
  | 1 => show 16 * (j % 8) + 16 ≤ 128; omega

/-- Sixteen columns of one row lie inside a chunk. -/
theorem inBuf (r j : Nat) (hr : r < 8) (hj : j < 64) :
    ∀ a, (![r, 16 * j] : Fin 2 → Nat) a + S1x16.size a ≤ S8x1024.size a := by
  intro a; match a with
  | 0 => show r + 1 ≤ 8; omega
  | 1 => show 16 * j + 16 ≤ 1024; omega

/-- What a lane stores: the sixteen elements of `x` less those of the mean, times those of the reciprocal. -/
def pay (x m r : Vec F S1x16 .f32) : Vec F S1x16 .f32 :=
  shapeCast S1x16
    (mulf (subf (shapeCast S16 x shapeCasts_S1x16_S16 : FVec F S16 .f32) (shapeCast S16 m shapeCasts_S1x16_S16 : FVec F S16 .f32))
      (shapeCast S16 r shapeCasts_S1x16_S16 : FVec F S16 .f32))
    shapeCasts_S16_S1x16

/-- Lanes `j`, …, `j + k - 1` of row `r` of a chunk, against the rows of the gathered blocks that `tr` names. -/
def lanes (i : grid1.Coords) (xv : Memref sig .scVector .vmem S8x1024 .f32) (mv rv : Memref sig .scVector .vmem S64x128 .f32)
    (yv : Memref sig .scVector .vmem S8x1024 .f32) (r : Nat) (hr : r < 8) (tr : Fin 8 → Nat) (htr : ∀ q, tr q < 64) :
    (k j : Nat) → (h : k + j = 64) → Prog (TpuEff nD τ sig (Elt F) Λ₀ (proc i)) PUnit
  | 0, _, _ => pure ⟨⟩
  | k + 1, j, h => do
    let x : Vec F S1x16 .f32 ← Prog.lift (.load xv (Rect.unit (s := S8x1024) ![r, 16 * j] S1x16.size
      (inBuf r j hr (by omega))).toLoadRect (View.loadsAt_vmem h_S1x16))
    let m : Vec F S1x16 .f32 ← Prog.lift (.load mv (Rect.unit (s := S64x128) ![tr ⟨j / 8, by omega⟩, 16 * (j % 8)] S1x16.size
      (inTab _ j (htr _) (by omega))).toLoadRect (View.loadsAt_vmem h_S1x16))
    let s : Vec F S1x16 .f32 ← Prog.lift (.load rv (Rect.unit (s := S64x128) ![tr ⟨j / 8, by omega⟩, 16 * (j % 8)] S1x16.size
      (inTab _ j (htr _) (by omega))).toLoadRect (View.loadsAt_vmem h_S1x16))
    let _ : Vec F S1x16 .f32 ← Prog.lift (.load yv (Rect.unit (s := S8x1024) ![r, 16 * j] S1x16.size
      (inBuf r j hr (by omega))).toLoadRect (View.loadsAt_vmem h_S1x16))
    Prog.lift (.store yv (Rect.unit (s := S8x1024) ![r, 16 * j] S1x16.size (inBuf r j hr (by omega)))
      (pay x m s) Finset.univ (View.stores_vmem_bits_univ h_S1x16 rfl) (.inl rfl))
    lanes i xv mv rv yv r hr tr htr k (j + 1) (by omega)

theorem row_lt (t : Fin k1_t2_loop.trips) : k1_off3 t 0 < 8 := by
  have := k1_off3_inb t 0
  show k1_off3 t 0 + 1 ≤ 8
  exact this

theorem trow_lt (t : Fin k1_t2_loop.trips) (q : Fin 8) : k1_off4 t (BitVec.ofNat 32 q.val) 0 < 64 := by
  have := k1_off4_inb t q 0
  show k1_off4 t _ 0 + 1 ≤ 64
  exact this

/-- Row `t` of a chunk. -/
def rowProg (i : grid1.Coords) (xv : Memref sig .scVector .vmem S8x1024 .f32) (mv rv : Memref sig .scVector .vmem S64x128 .f32)
    (yv : Memref sig .scVector .vmem S8x1024 .f32) (t : Fin k1_t2_loop.trips) : Prog (TpuEff nD τ sig (Elt F) Λ₀ (proc i)) PUnit :=
  lanes i xv mv rv yv (k1_off3 t 0) (row_lt t) (fun q => k1_off4 t (BitVec.ofNat 32 q.val) 0) (trow_lt t) 64 0 rfl

end Cert.Proof
-- ==== Proof.Steps.lean ====
/-
  One task of the kernel as a program of steps: the four slots of the ring filled, sixteen trips of four steps each, and
  the last two stores waited for. Each step is the same program at another slot.
-/
module

public import proofs.«01_k».proof.Proof.Row

@[expose] public section

noncomputable section

namespace Cert.Proof

open Cert.KernelIdeal Idealize.ShloMosaic Idealize.SL.Sem
open Cert.KernelIdeal.Facts₀ Cert.KernelIdeal.Facts

variable {F : FTy → Type} [FloatOps F] [Cert.KernelIdeal.Facts]

/-- One slot of the ring: its three buffers and its two semaphores. -/
structure Slot where
  /-- The chunk of `x`. -/
  xv : Memref sig .scVector .vmem S8x1024 .f32
  /-- The gathered rows of the mean. -/
  mv : Memref sig .scVector .vmem S64x128 .f32
  /-- The gathered rows of the reciprocal. -/
  rv : Memref sig .scVector .vmem S64x128 .f32
  hx : xv.IsWhole
  hm : mv.IsWhole
  hr : rv.IsWhole
  /-- The semaphore of the copy of `x`. -/
  ins : DmaSems sig S_
  /-- The semaphore of the two gathers. -/
  gas : DmaSems sig S_

/-- The arrays a task reads and writes: `x`, the two tables, the result, and its own list of table rows. -/
structure Arrs where
  /-- The array normalised. -/
  x : Memref sig .scVector .hbm S16384x1024 .f32
  /-- The table of means. -/
  tm : Memref sig .scVector .hbm S512x128 .f32
  /-- The table of reciprocals. -/
  tr : Memref sig .scVector .hbm S512x128 .f32
  /-- The result. -/
  out : Memref sig .scVector .hbm S16384x1024 .f32
  /-- The task's list of table rows. -/
  idx : Memref sig .scVector .vmem S4096 .i32

/-- Eight rows of an array of 16384 rows. -/
abbrev rowsM (x : Memref sig .scVector .hbm S16384x1024 .f32) (off : Fin 2 → Nat) (hoff : ∀ a, off a + S8x1024.size a ≤ S16384x1024.size a) :
    Memref sig .scVector .hbm S8x1024 .f32 := x.slice (Rect.unit (s := S16384x1024) off S8x1024.size hoff) (fun _ => rfl)

/-- A table, as its gathers name it. -/
abbrev tabM (t : Memref sig .scVector .hbm S512x128 .f32) : Memref sig .scVector .hbm S512x128 .f32 :=
  t.slice (Rect.unit (s := S512x128) ![0, 0] S512x128.size inb_S512x128_S512x128_0_0) (fun _ => rfl)

/-- Sixty-four words of a task's list. -/
abbrev listM (l : Memref sig .scVector .vmem S4096 .i32) (off : Fin 1 → Nat) (hoff : ∀ a, off a + S64.size a ≤ S4096.size a) :
    Memref sig .scVector .vmem S64 .i32 := l.slice (Rect.unit (s := S4096) off S64.size hoff) (fun _ => rfl)

/-- A chunk's copy and its two gathers started, then `k`. -/
def start {α : Type} (i : grid1.Coords) (A : Arrs) (S : Slot) (off : Fin 2 → Nat) (hoff : ∀ a, off a + S8x1024.size a ≤ S16384x1024.size a)
    (offi : Fin 1 → Nat) (hoffi : ∀ a, offi a + S64.size a ≤ S4096.size a) (k : Prog (TpuEff nD τ sig (Elt F) Λ₀ (proc i)) α) :
    Prog (TpuEff nD τ sig (Elt F) Λ₀ (proc i)) α := do
  Prog.lift (.enqueueDma (rowsM A.x off hoff) (.here S.xv) (.dma S.ins.sem) (View.wordExact_bits rfl) S.hx.wordExact ⟨Or.inl rfl, trivial⟩)
  SparseCore.enqueueIndirectGather rfl (tabM A.tm) S.mv gathers_S512x128_S64x128 (listM A.idx offi hoffi) rfl S.gas.sem (View.wordExact_bits rfl) rfl (Or.inl rfl)
  SparseCore.enqueueIndirectGather rfl (tabM A.tr) S.rv gathers_S512x128_S64x128 (listM A.idx offi hoffi) rfl S.gas.sem (View.wordExact_bits rfl) rfl (Or.inl rfl)
  k

/-- A chunk's copy and its first gather waited for, then `k`. -/
def drain1 {α : Type} (i : grid1.Coords) (A : Arrs) (S : Slot) (k : Prog (TpuEff nD τ sig (Elt F) Λ₀ (proc i)) α) :
    Prog (TpuEff nD τ sig (Elt F) Λ₀ (proc i)) α := do
  Prog.lift (.waitDma2 S.ins.sem (rowsM A.x ![0, 0] inb_S16384x1024_S8x1024_0_0) S.xv (View.wordExact_bits rfl) S.hx.wordExact)
  SparseCore.waitIndirectGather S.gas.sem (tabM A.tm) S.mv (View.wordExact_bits rfl) S.hm.wordExact
  k

/-- A chunk's second gather waited for, then `k`. -/
def drain2 {α : Type} (i : grid1.Coords) (A : Arrs) (S : Slot) (k : Prog (TpuEff nD τ sig (Elt F) Λ₀ (proc i)) α) :
    Prog (TpuEff nD τ sig (Elt F) Λ₀ (proc i)) α := do
  SparseCore.waitIndirectGather S.gas.sem (tabM A.tr) S.rv (View.wordExact_bits rfl) S.hr.wordExact
  k

/-- The rest of a step: the result's buffer waited for, eight rows computed, the buffer's store started, the slot filled again; then `k`. -/
def rest {α : Type} (i : grid1.Coords) (A : Arrs) (S : Slot) (yv : Memref sig .scVector .vmem S8x1024 .f32) (hy : yv.IsWhole)
    (outs : DmaSems sig S_) (cw : BitVec 1) (offo : Fin 2 → Nat) (hoffo : ∀ a, offo a + S8x1024.size a ≤ S16384x1024.size a)
    (cf : BitVec 1) (off : Fin 2 → Nat) (hoff : cf = 1#1 → ∀ a, off a + S8x1024.size a ≤ S16384x1024.size a)
    (offi : Fin 1 → Nat) (hoffi : cf = 1#1 → ∀ a, offi a + S64.size a ≤ S4096.size a)
    (k : Prog (TpuEff nD τ sig (Elt F) Λ₀ (proc i)) α) : Prog (TpuEff nD τ sig (Elt F) Λ₀ (proc i)) α := do
  if h : cw = 1#1 then do
    Prog.lift (.waitDma2 outs.sem yv (rowsM A.out ![0, 0] inb_S16384x1024_S8x1024_0_0) hy.wordExact (View.wordExact_bits rfl))
    pure ⟨⟩
  else do
    pure ⟨⟩
  Scf.Loop.for k1_t2_loop k1_t2_ok ⟨⟩ fun t _ => rowProg i S.xv S.mv S.rv yv t
  Prog.lift (.enqueueDma yv (.here (rowsM A.out offo hoffo)) (.dma outs.sem) hy.wordExact (View.wordExact_bits rfl) ⟨Or.inl rfl, trivial⟩)
  if h : cf = 1#1 then do
    start i A S off (hoff h) offi (hoffi h) (pure ⟨⟩)
  else do
    pure ⟨⟩
  k

/-- Whether a step waits for its result's buffer: its chunk is not one of the first two. -/
def cw (t : Fin k1_t1_loop.trips) (r : BitVec 32) : BitVec 1 :=
  Scalar.cmpi .ne (Scalar.extui (Scalar.cmpi .sge (Scalar.addi (Scalar.muli (Scf.iv 0#32 1#32 t) 4#32) r) 2#32) : BitVec 32) 0#32

/-- One trip: four steps, one per slot of the ring. -/
def trip (i : grid1.Coords) (A : Arrs) (S0 S1 S2 S3 : Slot) (y0 y1 : Memref sig .scVector .vmem S8x1024 .f32) (hy0 : y0.IsWhole) (hy1 : y1.IsWhole)
    (o0 o1 : DmaSems sig S_) (t : Fin k1_t1_loop.trips) : Prog (TpuEff nD τ sig (Elt F) Λ₀ (proc i)) PUnit :=
  drain1 i A S0 (drain2 i A S0 (rest i A S0 y0 hy0 o0 (cw t 0#32) (k1_off75 i t 0#32) (k1_off75_inb i t 0)
    (k1_cond2 t) (k1_off76 i t) (k1_off76_inb i t) (k1_off77 t) (k1_off77_inb t) (
  drain1 i A S1 (drain2 i A S1 (rest i A S1 y1 hy1 o1 (cw t 1#32) (k1_off75 i t 1#32) (k1_off75_inb i t 1)
    (k1_cond4 t) (k1_off150 i t) (k1_off150_inb i t) (k1_off151 t) (k1_off151_inb t) (
  drain1 i A S2 (drain2 i A S2 (rest i A S2 y0 hy0 o0 (cw t 2#32) (k1_off75 i t 2#32) (k1_off75_inb i t 2)
    (k1_cond6 t) (k1_off224 i t) (k1_off224_inb i t) (k1_off225 t) (k1_off225_inb t) (
  drain1 i A S3 (drain2 i A S3 (rest i A S3 y1 hy1 o1 (cw t 3#32) (k1_off75 i t 3#32) (k1_off75_inb i t 3)
    (k1_cond8 t) (k1_off298 i t) (k1_off298_inb i t) (k1_off299 t) (k1_off299_inb t) (
  pure ⟨⟩))))))))))))

/-- The task: its list copied in, the four slots filled, sixteen trips, and the last two stores waited for. -/
def task (i : grid1.Coords) (A : Arrs) (lst : Memref sig .scVector .hbm S131072 .i32) (hidx : A.idx.IsWhole) (S0 S1 S2 S3 : Slot)
    (y0 y1 : Memref sig .scVector .vmem S8x1024 .f32) (hy0 : y0.IsWhole) (hy1 : y1.IsWhole)
    (o0 o1 sc : DmaSems sig S_) : Prog (TpuEff nD τ sig (Elt F) Λ₀ (proc i)) PUnit := do
  Prog.lift (.enqueueDma (lst.slice (Rect.unit (s := S131072) (k1_off1 i) S4096.size (k1_off1_inb i)) (fun _ => rfl)) (.here A.idx) (.dma sc.sem) (View.wordExact_bits rfl) hidx.wordExact ⟨Or.inl rfl, trivial⟩)
  Prog.lift (.waitDma2 sc.sem (lst.slice (Rect.unit (s := S131072) (k1_off1 i) S4096.size (k1_off1_inb i)) (fun _ => rfl)) A.idx (View.wordExact_bits rfl) hidx.wordExact)
  start i A S0 (k1_off2 i 0#32) (k1_off2_inb i 0) ![0] inb_S4096_S64_0 (start i A S1 (k1_off2 i 8#32) (k1_off2_inb i 1) ![64] inb_S4096_S64_64
    (start i A S2 (k1_off2 i 16#32) (k1_off2_inb i 2) ![128] inb_S4096_S64_128 (start i A S3 (k1_off2 i 24#32) (k1_off2_inb i 3) ![192] inb_S4096_S64_192 (do
      Scf.Loop.for k1_t1_loop k1_t1_ok ⟨⟩ fun t _ => trip i A S0 S1 S2 S3 y0 y1 hy0 hy1 o0 o1 t
      Prog.lift (.waitDma2 o0.sem y0 (rowsM A.out ![0, 0] inb_S16384x1024_S8x1024_0_0) hy0.wordExact (View.wordExact_bits rfl))
      Prog.lift (.waitDma2 o1.sem y1 (rowsM A.out ![0, 0] inb_S16384x1024_S8x1024_0_0) hy1.wordExact (View.wordExact_bits rfl))
      pure ⟨⟩))))

theorem drain1_bind {α β : Type} (i : grid1.Coords) (A : Arrs) (S : Slot) (k : Prog (TpuEff nD τ sig (Elt F) Λ₀ (proc i)) α)
    (f : α → Prog (TpuEff nD τ sig (Elt F) Λ₀ (proc i)) β) : (drain1 i A S k >>= f) = drain1 i A S (k >>= f) := rfl

theorem drain2_bind {α β : Type} (i : grid1.Coords) (A : Arrs) (S : Slot) (k : Prog (TpuEff nD τ sig (Elt F) Λ₀ (proc i)) α)
    (f : α → Prog (TpuEff nD τ sig (Elt F) Λ₀ (proc i)) β) : (drain2 i A S k >>= f) = drain2 i A S (k >>= f) := rfl

theorem rest_bind {α β : Type} (i : grid1.Coords) (A : Arrs) (S : Slot) (yv : Memref sig .scVector .vmem S8x1024 .f32) (hy : yv.IsWhole)
    (outs : DmaSems sig S_) (cw : BitVec 1) (offo : Fin 2 → Nat) (hoffo : ∀ a, offo a + S8x1024.size a ≤ S16384x1024.size a)
    (cf : BitVec 1) (off : Fin 2 → Nat) (hoff : cf = 1#1 → ∀ a, off a + S8x1024.size a ≤ S16384x1024.size a)
    (offi : Fin 1 → Nat) (hoffi : cf = 1#1 → ∀ a, offi a + S64.size a ≤ S4096.size a)
    (k : Prog (TpuEff nD τ sig (Elt F) Λ₀ (proc i)) α) (f : α → Prog (TpuEff nD τ sig (Elt F) Λ₀ (proc i)) β) :
    (rest i A S yv hy outs cw offo hoffo cf off hoff offi hoffi k >>= f) = rest i A S yv hy outs cw offo hoffo cf off hoff offi hoffi (k >>= f) := by
  unfold rest
  by_cases h1 : cw = 1#1 <;> by_cases h2 : cf = 1#1 <;> simp [h1, h2]

section Printed

variable (i : grid1.Coords)
  (arg2 : Memref sig .scVector .hbm S16384x1024 .f32)
  (harg2 : arg2.IsWhole)
  (arg3 : Memref sig .scVector .hbm S131072 .i32)
  (harg3 : arg3.IsWhole)
  (arg4 : Memref sig .scVector .hbm S512x128 .f32)
  (harg4 : arg4.IsWhole)
  (arg5 : Memref sig .scVector .hbm S512x128 .f32)
  (harg5 : arg5.IsWhole)
  (arg6 : Memref sig .scVector .hbm S16384x1024 .f32)
  (harg6 : arg6.IsWhole)
  (arg7 : Memref sig .scVector .vmem S8x1024 .f32)
  (harg7 : arg7.IsWhole)
  (arg8 : Memref sig .scVector .vmem S8x1024 .f32)
  (harg8 : arg8.IsWhole)
  (arg9 : Memref sig .scVector .vmem S8x1024 .f32)
  (harg9 : arg9.IsWhole)
  (arg10 : Memref sig .scVector .vmem S8x1024 .f32)
  (harg10 : arg10.IsWhole)
  (arg11 : Memref sig .scVector .vmem S64x128 .f32)
  (harg11 : arg11.IsWhole)
  (arg12 : Memref sig .scVector .vmem S64x128 .f32)
  (harg12 : arg12.IsWhole)
  (arg13 : Memref sig .scVector .vmem S64x128 .f32)
  (harg13 : arg13.IsWhole)
  (arg14 : Memref sig .scVector .vmem S64x128 .f32)
  (harg14 : arg14.IsWhole)
  (arg15 : Memref sig .scVector .vmem S64x128 .f32)
  (harg15 : arg15.IsWhole)
  (arg16 : Memref sig .scVector .vmem S64x128 .f32)
  (harg16 : arg16.IsWhole)
  (arg17 : Memref sig .scVector .vmem S64x128 .f32)
  (harg17 : arg17.IsWhole)
  (arg18 : Memref sig .scVector .vmem S64x128 .f32)
  (harg18 : arg18.IsWhole)
  (arg19 : Memref sig .scVector .vmem S8x1024 .f32)
  (harg19 : arg19.IsWhole)
  (arg20 : Memref sig .scVector .vmem S8x1024 .f32)
  (harg20 : arg20.IsWhole)
  (arg21 : Memref sig .scVector .vmem S4096 .i32)
  (harg21 : arg21.IsWhole)
  (arg22 : DmaSems sig S_)
  (arg23 : DmaSems sig S_)
  (arg24 : DmaSems sig S_)
  (arg25 : DmaSems sig S_)
  (arg26 : DmaSems sig S_)
  (arg27 : DmaSems sig S_)
  (arg28 : DmaSems sig S_)
  (arg29 : DmaSems sig S_)
  (arg30 : DmaSems sig S_)
  (arg31 : DmaSems sig S_)
  (v37_r0 : DmaSems sig S_)

set_option maxRecDepth 65536 in
set_option maxHeartbeats 4000000 in
/-- The first window of a trip is its first step. -/
theorem part105_eq (t : Fin k1_t1_loop.trips) (v2 : BitVec 32) : k1_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 v2 0#32 1#32 t
    = drain1 i ⟨arg2, arg4, arg5, arg6, arg21⟩ ⟨arg7, arg11, arg15, harg7, harg11, harg15, arg22, arg26⟩ (drain2 i ⟨arg2, arg4, arg5, arg6, arg21⟩ ⟨arg7, arg11, arg15, harg7, harg11, harg15, arg22, arg26⟩ (rest i ⟨arg2, arg4, arg5, arg6, arg21⟩ ⟨arg7, arg11, arg15, harg7, harg11, harg15, arg22, arg26⟩ arg19 harg19 arg30 (cw t 0#32) (k1_off75 i t 0#32) (k1_off75_inb i t 0) (k1_cond2 t) (k1_off76 i t) (k1_off76_inb i t) (k1_off77 t) (k1_off77_inb t) (pure ⟨Scf.iv 0#32 1#32 t, Scalar.addi (Scalar.muli (Scf.iv 0#32 1#32 t) 4#32) 1#32⟩))) := rfl

set_option maxRecDepth 65536 in
set_option maxHeartbeats 4000000 in
/-- The second window of a trip is its second step and the start of its third. -/
theorem part106_eq (t : Fin k1_t1_loop.trips) (v2 : BitVec 32) : k1_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 v2 t (Scf.iv 0#32 1#32 t) (Scalar.addi (Scalar.muli (Scf.iv 0#32 1#32 t) 4#32) 1#32)
    = drain1 i ⟨arg2, arg4, arg5, arg6, arg21⟩ ⟨arg8, arg12, arg16, harg8, harg12, harg16, arg23, arg27⟩ (drain2 i ⟨arg2, arg4, arg5, arg6, arg21⟩ ⟨arg8, arg12, arg16, harg8, harg12, harg16, arg23, arg27⟩ (rest i ⟨arg2, arg4, arg5, arg6, arg21⟩ ⟨arg8, arg12, arg16, harg8, harg12, harg16, arg23, arg27⟩ arg20 harg20 arg31 (cw t 1#32) (k1_off75 i t 1#32) (k1_off75_inb i t 1) (k1_cond4 t) (k1_off150 i t) (k1_off150_inb i t) (k1_off151 t) (k1_off151_inb t) (drain1 i ⟨arg2, arg4, arg5, arg6, arg21⟩ ⟨arg9, arg13, arg17, harg9, harg13, harg17, arg24, arg28⟩ (pure (Scalar.addi (Scalar.muli (Scf.iv 0#32 1#32 t) 4#32) 2#32))))) := rfl

set_option maxRecDepth 65536 in
set_option maxHeartbeats 4000000 in
/-- The third window of a trip is the rest of its third step and the start of its fourth. -/
theorem part107_eq (t : Fin k1_t1_loop.trips) (v2 : BitVec 32) : k1_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 v2 t (Scf.iv 0#32 1#32 t) (Scalar.addi (Scalar.muli (Scf.iv 0#32 1#32 t) 4#32) 2#32)
    = drain2 i ⟨arg2, arg4, arg5, arg6, arg21⟩ ⟨arg9, arg13, arg17, harg9, harg13, harg17, arg24, arg28⟩ (rest i ⟨arg2, arg4, arg5, arg6, arg21⟩ ⟨arg9, arg13, arg17, harg9, harg13, harg17, arg24, arg28⟩ arg19 harg19 arg30 (cw t 2#32) (k1_off75 i t 2#32) (k1_off75_inb i t 2) (k1_cond6 t) (k1_off224 i t) (k1_off224_inb i t) (k1_off225 t) (k1_off225_inb t) (drain1 i ⟨arg2, arg4, arg5, arg6, arg21⟩ ⟨arg10, arg14, arg18, harg10, harg14, harg18, arg25, arg29⟩ (drain2 i ⟨arg2, arg4, arg5, arg6, arg21⟩ ⟨arg10, arg14, arg18, harg10, harg14, harg18, arg25, arg29⟩ (pure ⟨Scalar.addi (Scalar.muli (Scf.iv 0#32 1#32 t) 4#32) 3#32, Scalar.extui (Scalar.cmpi .sge (Scalar.addi (Scalar.muli (Scf.iv 0#32 1#32 t) 4#32) 3#32) 2#32)⟩)))) := rfl

theorem trip_eq (t : Fin k1_t1_loop.trips) (v2 : BitVec 32) : (do
      let p ← k1_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 v2 0#32 1#32 t
      let q ← k1_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 v2 t p.1 p.2
      let r ← k1_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 v2 t p.1 q
      rest i ⟨arg2, arg4, arg5, arg6, arg21⟩ ⟨arg10, arg14, arg18, harg10, harg14, harg18, arg25, arg29⟩ arg20 harg20 arg31 (Scalar.cmpi .ne r.2 0#32) (k1_off75 i t 3#32) (k1_off75_inb i t 3) (k1_cond8 t) (k1_off298 i t) (k1_off298_inb i t) (k1_off299 t) (k1_off299_inb t) (pure ⟨⟩))
    = trip i ⟨arg2, arg4, arg5, arg6, arg21⟩ ⟨arg7, arg11, arg15, harg7, harg11, harg15, arg22, arg26⟩ ⟨arg8, arg12, arg16, harg8, harg12, harg16, arg23, arg27⟩ ⟨arg9, arg13, arg17, harg9, harg13, harg17, arg24, arg28⟩ ⟨arg10, arg14, arg18, harg10, harg14, harg18, arg25, arg29⟩ arg19 arg20 harg19 harg20 arg30 arg31 t := by
  rw [part105_eq]
  simp only [drain1_bind, drain2_bind, rest_bind, pure_bind]
  rw [part106_eq]
  simp only [drain1_bind, drain2_bind, rest_bind, pure_bind]
  rw [part107_eq]
  simp only [drain1_bind, drain2_bind, rest_bind, pure_bind]
  rfl

set_option maxRecDepth 65536 in
set_option maxHeartbeats 4000000 in
/-- The kernel's body is the task. -/
theorem cc1_norm_eq : cc1_norm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 = task i ⟨arg2, arg4, arg5, arg6, arg21⟩ arg3 harg21 ⟨arg7, arg11, arg15, harg7, harg11, harg15, arg22, arg26⟩ ⟨arg8, arg12, arg16, harg8, harg12, harg16, arg23, arg27⟩ ⟨arg9, arg13, arg17, harg9, harg13, harg17, arg24, arg28⟩ ⟨arg10, arg14, arg18, harg10, harg14, harg18, arg25, arg29⟩ arg19 arg20 harg19 harg20 arg30 arg31 v37_r0 := by
  unfold task
  rw [show (fun (t : Fin k1_t1_loop.trips) (_ : PUnit.{1}) => trip (F := F) i ⟨arg2, arg4, arg5, arg6, arg21⟩ ⟨arg7, arg11, arg15, harg7, harg11, harg15, arg22, arg26⟩ ⟨arg8, arg12, arg16, harg8, harg12, harg16, arg23, arg27⟩ ⟨arg9, arg13, arg17, harg9, harg13, harg17, arg24, arg28⟩ ⟨arg10, arg14, arg18, harg10, harg14, harg18, arg25, arg29⟩ arg19 arg20 harg19 harg20 arg30 arg31 t) = _ from
    funext fun t => funext fun _ => (trip_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 arg31 v37_r0 t (Scalar.muli (Scalar.addi (Scalar.muli (BitVec.ofNat 32 (i 1).val) 2#32) (BitVec.ofNat 32 (i 0).val)) 512#32)).symm]
  rfl

end Printed

end Cert.Proof
-- ==== Proof.Hold.lean ====
/-
  A buffer held through a memref, by the values the memref reads: what the run carries of every buffer it works on.
-/
module

public import Idealize.ShloMosaic.Lib.SparseCore.Ops
public import Idealize.ShloMosaic.Lib.WritesUnit
public import Idealize.ShloMosaic.Lib.Tactic

@[expose] public section

noncomputable section

namespace Cert.Proof

open Idealize.ShloMosaic
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp : Space} {s : Shape} {e : EltTy} {α : Type} {Q : α → sProp (MT nD τ sig Ix (Elt F) Name U Lvl)}

local notation "𝕄" => MT nD τ sig Ix (Elt F) Name U Lvl

/-- The elements of `m` held at share `q`, reading `V`. -/
def holds (m : Memref sig c.2.kind sp s e) (q : PosShare TreeShare) (V : s.Idx → Elt F e) : sProp 𝕄 :=
  iprop(∃ f : Buf (Elt F) (m.view.loc c), ⌜m.view.read (Elt F) f = V⌝ ∗ (m.view.loc c ↦[m.view.set]{q} f))

instance holds_storable (m : Memref sig c.2.kind sp s e) (q : PosShare TreeShare) (V : s.Idx → Elt F e) :
    Storable (upEmb : UEmb _ 𝕄) (holds (Ix := Ix) (Name := Name) (U := U) (Lvl := Lvl) c m q V) := by
  unfold holds; infer_instance

/-- The elements of `m` held whole, reading something. -/
abbrev some_ (m : Memref sig c.2.kind sp s e) : sProp 𝕄 := iprop(∃ V, holds c m fullShare V)

/-- A load through a rectangle of a held memref. -/
theorem wp_load_holds {cs : CoreSpace} {m : Memref sig c.2.kind cs s e} {r : Rect s} {hl : m.view.LoadsAt r.toLoadRect}
    {k : (r.shape.Idx → Elt F e) → Prog (TpuEff nD τ sig (Elt F) Λ c.2) α} {q : PosShare TreeShare} {V : s.Idx → Elt F e} :
    (holds c m q V : sProp 𝕄)
      ⊢ iprop((holds c m q V -∗ wp frame (wpE defs 𝒱 c bd) Set.univ (k fun i => V (r.emb i)) Q)
        -∗ wp frame (wpE defs 𝒱 c bd) Set.univ (.op (.load m r.toLoadRect hl) k) Q) := by
  unfold holds
  iintro ⟨%f, %hf, H⟩ Hk
  subst hf
  iapply (wp_load_rect 𝒱 c bd Set.univ (m := m) (r := r) (S := m.view.set) (f := f) (View.set_slice_subset _ _)) $$ H
  iintro H
  iapply Hk
  iexists f
  isplitr; · ipureintro; rfl
  iexact H

/-- A store through a unit-stride rectangle of a held memref: the payload inside the rectangle, the old values outside. -/
theorem wp_store_holds {cs : CoreSpace} {m : Memref sig c.2.kind cs s e} {off size : Fin s.rank → ℕ} {inb : ∀ a, off a + size a ≤ s.size a}
    {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ c.2) α} {V V' : s.Idx → Elt F e}
    (hV : ∀ y, (if h : ∀ a, off a ≤ (y a).val ∧ (y a).val < off a + size a then w (Rect.unitLocal (s := s) y h) else V y) = V' y) :
    (holds c m fullShare V : sProp 𝕄)
      ⊢ iprop((holds c m fullShare V' -∗ wp frame (wpE defs 𝒱 c bd) Set.univ (k ⟨⟩) Q)
        -∗ wp frame (wpE defs 𝒱 c bd) Set.univ (.op (.store m (Rect.unit off size inb) w Finset.univ hx hm) k) Q) := by
  unfold holds
  iintro ⟨%f, %hf, H⟩ Hk
  subst hf
  iapply (wp_store 𝒱 c bd Set.univ (m := m) (r := Rect.unit off size inb) (S := m.view.set) (f := f) (View.set_slice_subset _ _)) $$ H
  iintro H
  iapply Hk
  iexists (m.view.writes (Elt F) f [⟨Rect.unit off size inb, w⟩])
  isplitr
  · ipureintro
    funext y
    rw [← hV y, View.read_writes_cons_unit m.view f inb w [] y rfl]
    rfl
  iexact H

end Cert.Proof
-- ==== Proof.RowRun.lean ====
/-
  The arithmetic of one chunk, with its values: eight rows of sixty-four lanes.
-/
module

public import proofs.«01_k».proof.Proof.Row
public import proofs.«01_k».proof.Proof.Hold
public import proofs.«01_k».proof.Proof.Gen.KernelIdeal
public import Idealize.ShloMosaic.Lib.ValueIdxCore

@[expose] public section

noncomputable section

namespace Cert.Proof

open Cert.KernelIdeal Idealize.ShloMosaic
open Cert.KernelIdeal.Facts₀ Cert.KernelIdeal.Facts
open Idealize.SL.BI (sProp Storable)
open scoped Idealize.SL.BI
open Idealize.SL.BI.BIBase Idealize.SL.BI.Laws Idealize.SL.Sem Idealize.SL.ProofMode
open Idealize.SL.RA
open Idealize.ShloMosaic.ValueIdx

variable {F : FTy → Type} [FloatOps F] [Cert.KernelIdeal.Facts]
variable {Ix : Type} [DecidableEq Ix] {Name : Type} [DecidableEq Name] {U : Type} [URA U] {Lvl : Type} [Preorder Lvl]
variable {defs : Defs nD τ sig (Elt F) Λ₀} (𝒱 : Variants) (d : Dev nD) (i : grid1.Coords) (bd : Option 𝒱.V)

local notation "𝕄" => MT nD τ sig Ix (Elt F) Name U Lvl

/-- The thread of a task. -/
abbrev thr : Thread nD τ := (d, proc i)

/-- The result's element behind those of `x`, the mean and the reciprocal. -/
def norm (x m r : Elt F .f32) : Elt F .f32 := FloatOps.mulf (FloatOps.subf x m) r

theorem pay_apply (x m r : Vec F S1x16 .f32) (y : S1x16.Idx) : pay x m r y = norm (x y) (m y) (r y) := by
  have h : Shape.reshapeEquiv shapeCasts_S1x16_S16 (Shape.reshapeEquiv shapeCasts_S16_S1x16 y) = y := by
    rw [Shape.reshapeEquiv_reshapeEquiv, Shape.reshapeEquiv_self]
  show norm (x (Shape.reshapeEquiv shapeCasts_S1x16_S16 (Shape.reshapeEquiv shapeCasts_S16_S1x16 y))) (m _) (r _) = _
  rw [h]

/-- The place in a gathered block that column `b` of the row whose pieces `tr` names is read from. -/
abbrev tabAt (tr : Fin 8 → Nat) (htr : ∀ q, tr q < 64) (b : Fin 1024) : S64x128.Idx :=
  ix2 ⟨tr ⟨b.val / 128, by omega⟩, htr _⟩ ⟨b.val % 128, Nat.mod_lt _ (by decide)⟩

/-- A chunk's result with the lanes below `j` of row `r` computed. -/
def upto (r j : Nat) (Y T : S8x1024.Idx → Elt F .f32) : S8x1024.Idx → Elt F .f32 :=
  fun p => if (p 0).val = r ∧ (p 1).val < 16 * j then T p else Y p

/-- A lane's store carries `upto r j` to `upto r (j + 1)`. -/
theorem lane_value (r : Nat) (hr : r < 8) (tr : Fin 8 → Nat) (htr : ∀ q, tr q < 64)
    (X Y T : S8x1024.Idx → Elt F .f32) (M R : S64x128.Idx → Elt F .f32)
    (hT : ∀ b : Fin 1024, T (ix2 ⟨r, hr⟩ b) = norm (X (ix2 ⟨r, hr⟩ b)) (M (tabAt tr htr b)) (R (tabAt tr htr b)))
    (j : Nat) (hj : j < 64) (y : S8x1024.Idx) :
    (if h : ∀ a, (![r, 16 * j] : Fin 2 → Nat) a ≤ (y a).val ∧ (y a).val < (![r, 16 * j] : Fin 2 → Nat) a + S1x16.size a then
        pay (fun i => X ((Rect.unit (s := S8x1024) ![r, 16 * j] S1x16.size (inBuf r j hr hj)).emb i))
          (fun i => M ((Rect.unit (s := S64x128) ![tr ⟨j / 8, by omega⟩, 16 * (j % 8)] S1x16.size (inTab _ j (htr _) hj)).emb i))
          (fun i => R ((Rect.unit (s := S64x128) ![tr ⟨j / 8, by omega⟩, 16 * (j % 8)] S1x16.size (inTab _ j (htr _) hj)).emb i))
          (Rect.unitLocal (s := S8x1024) y h)
      else upto r j Y T y) = upto r (j + 1) Y T y := by
  by_cases h : ∀ a, (![r, 16 * j] : Fin 2 → Nat) a ≤ (y a).val ∧ (y a).val < (![r, 16 * j] : Fin 2 → Nat) a + S1x16.size a
  · rw [dif_pos h, pay_apply]
    obtain ⟨u, v, rfl⟩ : ∃ (u : Fin 8) (v : Fin 1024), y = ix2 u v := ⟨y 0, y 1, eq_ix2 y⟩
    have h0 : r ≤ u.val ∧ u.val < r + 1 := h 0
    have h1 : 16 * j ≤ v.val ∧ v.val < 16 * j + 16 := h 1
    unfold upto
    rw [if_pos ⟨by show u.val = r; omega, by show v.val < _; omega⟩]
    obtain rfl : r = u.val := by omega
    have hx : (Rect.unit (s := S8x1024) ![u.val, 16 * j] S1x16.size (inBuf u.val j hr hj)).emb (Rect.unitLocal (s := S8x1024) (ix2 u v) h) = ix2 u v := by
      funext a; match a with
      | 0 => exact Fin.ext (by show u.val + 1 * (u.val - u.val) = u.val; omega)
      | 1 => exact Fin.ext (by show 16 * j + 1 * (v.val - 16 * j) = v.val; omega)
    have ht : (Rect.unit (s := S64x128) ![tr ⟨j / 8, by omega⟩, 16 * (j % 8)] S1x16.size (inTab _ j (htr _) hj)).emb (Rect.unitLocal (s := S8x1024) (ix2 u v) h)
        = tabAt tr htr v := by
      have he : (⟨j / 8, by omega⟩ : Fin 8) = ⟨v.val / 128, by omega⟩ := Fin.ext (by show j / 8 = v.val / 128; omega)
      funext a; match a with
      | 0 => exact Fin.ext (by show tr ⟨j / 8, _⟩ + 1 * (u.val - u.val) = tr ⟨v.val / 128, _⟩; rw [he]; omega)
      | 1 => exact Fin.ext (by show 16 * (j % 8) + 1 * (v.val - 16 * j) = v.val % 128; omega)
    rw [hx, ht]
    exact (hT v).symm
  · rw [dif_neg h]
    unfold upto
    by_cases h' : (y 0).val = r ∧ (y 1).val < 16 * (j + 1)
    · rw [if_pos h']
      have : (y 1).val < 16 * j := by
        by_contra hc
        exact h fun a => match a with
          | 0 => ⟨by show r ≤ _; omega, by show _ < r + 1; omega⟩
          | 1 => ⟨by show 16 * j ≤ _; omega, by show _ < 16 * j + 16; omega⟩
      rw [if_pos ⟨h'.1, this⟩]
    · rw [if_neg h', if_neg fun hc => h' ⟨hc.1, by omega⟩]

variable {α : Type}

/-- A row's lanes from `j` on. -/

theorem lanes_wp {Q : α → sProp 𝕄} (xv : Memref sig .scVector .vmem S8x1024 .f32) (mv rv : Memref sig .scVector .vmem S64x128 .f32)
    (yv : Memref sig .scVector .vmem S8x1024 .f32) (r : Nat) (hr : r < 8) (tr : Fin 8 → Nat) (htr : ∀ q, tr q < 64)
    (X Y T : S8x1024.Idx → Elt F .f32) (M R : S64x128.Idx → Elt F .f32)
    (hT : ∀ b : Fin 1024, T (ix2 ⟨r, hr⟩ b) = norm (X (ix2 ⟨r, hr⟩ b)) (M (tabAt tr htr b)) (R (tabAt tr htr b)))
    (kk : PUnit → Prog (TpuEff nD τ sig (Elt F) Λ₀ (proc i)) α) :
    ∀ (k j : Nat) (h : k + j = 64),
    (iprop(holds (thr d i) xv fullShare X ∗ holds (thr d i) mv fullShare M ∗ holds (thr d i) rv fullShare R ∗ holds (thr d i) yv fullShare (upto r j Y T)) : sProp 𝕄)
      ⊢ iprop((iprop(holds (thr d i) xv fullShare X ∗ holds (thr d i) mv fullShare M ∗ holds (thr d i) rv fullShare R ∗ holds (thr d i) yv fullShare (upto r 64 Y T))
            -∗ wp frame (wpE defs 𝒱 (thr d i) bd) Set.univ (kk ⟨⟩) Q)
          -∗ wp frame (wpE defs 𝒱 (thr d i) bd) Set.univ (lanes i xv mv rv yv r hr tr htr k j h >>= kk) Q)
  | 0, j, h => by
    obtain rfl : j = 64 := by omega
    iintro H Hk
    iapply Hk
    iexact H
  | k + 1, j, h => by
    iintro ⟨Hx, Hm, Hr, Hy⟩ Hk
    unfold lanes
    iapply (wp_load_holds 𝒱 (thr d i) bd) $$ Hx
    iintro Hx
    iapply (wp_load_holds 𝒱 (thr d i) bd) $$ Hm
    iintro Hm
    iapply (wp_load_holds 𝒱 (thr d i) bd) $$ Hr
    iintro Hr
    iapply (wp_load_holds 𝒱 (thr d i) bd) $$ Hy
    iintro Hy
    iapply (wp_store_holds 𝒱 (thr d i) bd (V' := upto r (j + 1) Y T) (lane_value r hr tr htr X Y T M R hT j (by omega))) $$ Hy
    iintro Hy
    iapply (lanes_wp xv mv rv yv r hr tr htr X Y T M R hT kk k (j + 1) (by omega)) $$ [Hx Hm Hr Hy]
    · isplitl [Hx]; · iexact Hx
      isplitl [Hm]; · iexact Hm
      isplitl [Hr]; · iexact Hr
      iexact Hy
    iexact Hk

/-- The same with nothing behind the lanes. -/
theorem lanes_wp_end (xv : Memref sig .scVector .vmem S8x1024 .f32) (mv rv : Memref sig .scVector .vmem S64x128 .f32)
    (yv : Memref sig .scVector .vmem S8x1024 .f32) (r : Nat) (hr : r < 8) (tr : Fin 8 → Nat) (htr : ∀ q, tr q < 64)
    (X Y T : S8x1024.Idx → Elt F .f32) (M R : S64x128.Idx → Elt F .f32)
    (hT : ∀ b : Fin 1024, T (ix2 ⟨r, hr⟩ b) = norm (X (ix2 ⟨r, hr⟩ b)) (M (tabAt tr htr b)) (R (tabAt tr htr b)))
    (k j : Nat) (h : k + j = 64) {Y₀ Y₁ : S8x1024.Idx → Elt F .f32} (h₀ : Y₀ = upto r j Y T) (h₁ : upto r 64 Y T = Y₁) :
    (iprop(holds (thr d i) xv fullShare X ∗ holds (thr d i) mv fullShare M ∗ holds (thr d i) rv fullShare R ∗ holds (thr d i) yv fullShare Y₀) : sProp 𝕄)
      ⊢ wp frame (wpE defs 𝒱 (thr d i) bd) Set.univ (lanes i xv mv rv yv r hr tr htr k j h) fun _ =>
          iprop(holds (thr d i) xv fullShare X ∗ holds (thr d i) mv fullShare M ∗ holds (thr d i) rv fullShare R ∗ holds (thr d i) yv fullShare Y₁) := by
  subst h₀ h₁
  have hl := lanes_wp (α := PUnit) (defs := defs) (Ix := Ix) (Name := Name) (U := U) (Lvl := Lvl) 𝒱 d i bd
    (Q := fun _ => iprop(holds (thr d i) xv fullShare X ∗ holds (thr d i) mv fullShare M ∗ holds (thr d i) rv fullShare R ∗ holds (thr d i) yv fullShare (upto r 64 Y T)))
    xv mv rv yv r hr tr htr X Y T M R hT pure k j h
  rw [bind_pure] at hl
  iintro H
  iapply hl $$ H
  iintro H
  rw [wp_pure]
  imodintro
  iexact H

/-- The rows below `k` computed. -/
def rowsTo (k : Nat) (Y T : S8x1024.Idx → Elt F .f32) : S8x1024.Idx → Elt F .f32 := fun p => if (p 0).val < k then T p else Y p

theorem off3_val : ∀ t : Fin k1_t2_loop.trips, k1_off3 t 0 = t.val := by decide +kernel
theorem off4_val : ∀ (t : Fin k1_t2_loop.trips) (q : Fin 8), k1_off4 t (BitVec.ofNat 32 q.val) 0 = 8 * t.val + q.val := by decide +kernel
theorem trips2 : k1_t2_loop.trips = 8 := by decide +kernel

/-- The place in a gathered block that element `(a, b)` of a chunk is computed from. -/
abbrev blockAt (a : Fin 8) (b : Fin 1024) : S64x128.Idx :=
  ix2 ⟨8 * a.val + b.val / 128, by omega⟩ ⟨b.val % 128, Nat.mod_lt _ (by decide)⟩

set_option maxRecDepth 20000 in
/-- One row of a chunk. -/
theorem row_wp (xv : Memref sig .scVector .vmem S8x1024 .f32) (mv rv : Memref sig .scVector .vmem S64x128 .f32)
    (yv : Memref sig .scVector .vmem S8x1024 .f32) (X Y T : S8x1024.Idx → Elt F .f32) (M R : S64x128.Idx → Elt F .f32)
    (hT : ∀ (a : Fin 8) (b : Fin 1024), T (ix2 a b) = norm (X (ix2 a b)) (M (blockAt a b)) (R (blockAt a b)))
    (t : Fin k1_t2_loop.trips) :
    (iprop(holds (thr d i) xv fullShare X ∗ holds (thr d i) mv fullShare M ∗ holds (thr d i) rv fullShare R ∗ holds (thr d i) yv fullShare (rowsTo t.val Y T)) : sProp 𝕄)
      ⊢ wp frame (wpE defs 𝒱 (thr d i) bd) Set.univ (rowProg i xv mv rv yv t) fun _ =>
          iprop(holds (thr d i) xv fullShare X ∗ holds (thr d i) mv fullShare M ∗ holds (thr d i) rv fullShare R ∗ holds (thr d i) yv fullShare (rowsTo (t.val + 1) Y T)) := by
  have e0 : rowsTo t.val Y T = upto (k1_off3 t 0) 0 (rowsTo t.val Y T) T := by
    funext p; unfold upto; rw [if_neg (by omega)]
  have e1 : upto (k1_off3 t 0) 64 (rowsTo t.val Y T) T = rowsTo (t.val + 1) Y T := by
    funext p; unfold upto rowsTo
    rw [off3_val]
    have hp : (p 1).val < 1024 := (p 1).isLt
    by_cases h1 : (p 0).val = t.val
    · rw [if_pos ⟨h1, by omega⟩, if_pos (by omega)]
    · rw [if_neg (fun h => h1 h.1)]
      by_cases h2 : (p 0).val < t.val
      · rw [if_pos h2, if_pos (by omega)]
      · rw [if_neg h2, if_neg (by omega)]
  have hl := lanes_wp_end (defs := defs) (Ix := Ix) (Name := Name) (U := U) (Lvl := Lvl) 𝒱 d i bd
    xv mv rv yv (k1_off3 t 0) (row_lt t) (fun q => k1_off4 t (BitVec.ofNat 32 q.val) 0) (trow_lt t)
    X (rowsTo t.val Y T) T M R (fun b => by
      have hb : tabAt (fun q => k1_off4 t (BitVec.ofNat 32 q.val) 0) (trow_lt t) b = blockAt ⟨k1_off3 t 0, row_lt t⟩ b := by
        unfold tabAt blockAt
        congr 1
        exact Fin.ext ((off4_val t ⟨b.val / 128, by omega⟩).trans (by show _ = 8 * k1_off3 t 0 + b.val / 128; rw [off3_val]))
      rw [hb]; exact hT _ b) 64 0 rfl e0 e1
  unfold rowProg
  exact hl

set_option maxRecDepth 20000 in
/-- The eight rows of a chunk. -/
theorem rows_wp {Q : α → sProp 𝕄} (xv : Memref sig .scVector .vmem S8x1024 .f32) (mv rv : Memref sig .scVector .vmem S64x128 .f32)
    (yv : Memref sig .scVector .vmem S8x1024 .f32) (X Y T : S8x1024.Idx → Elt F .f32) (M R : S64x128.Idx → Elt F .f32)
    (hT : ∀ (a : Fin 8) (b : Fin 1024), T (ix2 a b) = norm (X (ix2 a b)) (M (blockAt a b)) (R (blockAt a b)))
    (kk : PUnit → Prog (TpuEff nD τ sig (Elt F) Λ₀ (proc i)) α) :
    (iprop(holds (thr d i) xv fullShare X ∗ holds (thr d i) mv fullShare M ∗ holds (thr d i) rv fullShare R ∗ holds (thr d i) yv fullShare Y) : sProp 𝕄)
      ⊢ iprop((iprop(holds (thr d i) xv fullShare X ∗ holds (thr d i) mv fullShare M ∗ holds (thr d i) rv fullShare R ∗ holds (thr d i) yv fullShare T)
            -∗ wp frame (wpE defs 𝒱 (thr d i) bd) Set.univ (kk ⟨⟩) Q)
          -∗ wp frame (wpE defs 𝒱 (thr d i) bd) Set.univ ((Scf.Loop.for k1_t2_loop k1_t2_ok ⟨⟩ fun t _ => rowProg i xv mv rv yv t) >>= kk) Q) := by
  iintro ⟨Hx, Hm, Hr, Hy⟩ Hk
  iapply (Scf.wp_for_bind frame (wpE defs 𝒱 (thr d i) bd) Set.univ _ _ _ k1_t2_ok ⟨⟩ _
    (fun k _ => iprop(holds (thr d i) xv fullShare X ∗ holds (thr d i) mv fullShare M ∗ holds (thr d i) rv fullShare R ∗ holds (thr d i) yv fullShare (rowsTo k Y T))) ?_) $$ [Hx Hm Hr Hy]
  · intro t _
    exact row_wp 𝒱 d i bd xv mv rv yv X Y T M R hT t
  · isplitl [Hx]; · iexact Hx
    isplitl [Hm]; · iexact Hm
    isplitl [Hr]; · iexact Hr
    have e : rowsTo 0 Y T = Y := by funext p; unfold rowsTo; rw [if_neg (by omega)]
    rw [e]
    iexact Hy
  iintro %acc ⟨Hx, Hm, Hr, Hy⟩
  iapply Hk
  isplitl [Hx]; · iexact Hx
  isplitl [Hm]; · iexact Hm
  isplitl [Hr]; · iexact Hr
  have e : rowsTo k1_t2_loop.trips Y T = T := by
    funext p; unfold rowsTo; rw [if_pos (by rw [trips2]; exact (p 0).isLt)]
  iapply (Entails.of_eq (congrArg (holds (thr d i) yv fullShare) e))
  iexact Hy

end Cert.Proof
-- ==== Proof.Gather.lean ====
/-
  Two indirect gathers started on one semaphore before either is waited for. Their rows are the members of one batch:
  each row lands on its own, and the last wait takes all of them.
-/
module

public import Idealize.ShloMosaic.Lib.Batch
public import Idealize.ShloMosaic.Lib.SparseCore.Stream
public import Idealize.ShloMosaic.Lib.Tactic

@[expose] public section

noncomputable section

namespace Cert.Proof

open Idealize.ShloMosaic
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA
open Idealize.ShloMosaic.SparseCore Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The list's entry behind row `j` of a gather. -/
abbrev entryOf {o : ℕ} (hn : si.numel = o) (j : Fin o) : si.Idx := si.rowMajor.symm (j.cast hn.symm)

/-- What row `j` of a gather delivers: the row written with the source's row that the list names, the list's entry
    back, and a piece of the source's share back. -/
def rowLanded (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
      ∗ (offs.view.loc c ↦[{offs.view.emb (entryOf hn j)}]{qo} fo))
    ∗ (src.view.loc c ↦[src.view.set]{pieceOf q _ ho j} fs))

instance rowLanded_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowLanded (Ix := Ix) (Name := Name) (U := U) (Lvl := Lvl) c src dst hg offs hn ho q qo fs fd fo hin j) := by
  unfold rowLanded; infer_instance

theorem entryOf_bijective {o : ℕ} (hn : si.numel = o) : Function.Bijective (entryOf (si := si) hn) :=
  si.rowMajor.symm.bijective.comp (finCongr hn.symm).bijective

/-- All the rows landed: the destination written with the gather's payload, the source's share and the list's share back. -/
theorem rowsLanded (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowLanded c src dst hg offs hn ho q qo fs fd fo hin)
      ⊢ (iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  have hW : ∀ j i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  have hjoin := pointsTo_rows_write (Ix := Ix) (Name := Name) (U := U) (Lvl := Lvl) c dst.view hg.axis' fd
    (fun j i => src.view.read (Elt F) fs (hg.rowIdx (rows (offs.view.read (Elt F) fo) hn hin j) i)) _ hW
  have hen := Entails.of_eq (pointsTo_entries (Ix := Ix) (Name := Name) (U := U) (Lvl := Lvl) c offs.view (entryOf hn) (entryOf_bijective hn) qo fo).symm
  have hpc := Entails.of_eq (pointsTo_piecesOf (Ix := Ix) (Name := Name) (U := U) (Lvl := Lvl) (src.view.set) fs ho q).symm
  unfold rowLanded
  refine (Transfers.bigSep_sep_out _ _ _).trans ((sep_mono (Transfers.bigSep_sep_out _ _ _) .rfl).trans ?_)
  refine (sep_mono (sep_mono hjoin hen) hpc).trans ?_
  iintro ⟨⟨H, Ho⟩, Hs⟩
  isplitl [H]; · iexact H
  isplitl [Hs] <;> iassumption

/-- A gather started as part of a batch: row `j` is the batch's member `t j`, whose issue right the tile holds; the
    tile continues with the rows' credit. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ho : 0 < s.size hg.axis')
    (ι : Ix) (N M : ℕ) (hN : ∀ j, (dst.slice (s.rowRect hg.axis' j) (s.stride_rowRect hg.axis' j)).view.dmaCredit = N)
    (hM : s.size hg.axis' * N = M)
    (hin : ∀ x, (offs.view.read (Elt F) fo x).toNat < s₀.size hg.axis)
    {n : ℕ} (D : Fin n → sProp 𝕄) (t : Fin (s.size hg.axis') → Fin n)
    (hD : ∀ j, rowLanded c src dst hg offs hn ho q qo fs fd fo hin j ⊢ D (t j)) {γ : Fin n → ℕ} {γ₀ : ℕ} {κ : Name} :
    iprop(inv κ (batchBody EC (c, SemLoc.dma sem) N D γ γ₀)
        ∗ (src.view.loc c ↦[src.view.set]{q} fs) ∗ (dst.view.loc c ↦[dst.view.set]{fullShare} fd)
        ∗ (offs.view.loc c ↦[offs.view.set]{qo} fo) ∗ bigSep Finset.univ (fun j => count EC (γ (t j)) 0))
      ⊢ iprop((cred (tallyAt (c, SemLoc.dma sem) ι M) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (entryOf hn j))).map _ = _
    rw [rowOf_of_lt (hin _)]; rfl
  have hsum : ∑ j, (rd j).dst.view.dmaCredit = M := by
    change ∑ j, (dst.slice (s.rowRect hg.axis' j) (s.stride_rowRect hg.axis' j)).view.dmaCredit = M
    rw [← hM, Finset.sum_congr rfl (fun j _ => hN j), Finset.sum_const, Finset.card_univ, Fintype.card_fin, smul_eq_mul]
  have hres : ∀ j, iprop(inv κ (batchBody EC (c, SemLoc.dma sem) N D γ γ₀)
        ∗ ((((dst.view.loc c ↦[(dst.view.slice (s.rowRect hg.axis' j)).set]{fullShare} fd) ∗ S.heldEntry qo fo j)
        ∗ (src.view.loc c ↦[src.view.set]{pieceOf q _ ho j} fs)) ∗ count EC (γ (t j)) 0))
      ⊢ iprop(S.heldEntry qo fo j ∗ (S.heldEntry qo fo j -∗ rowRes c (rd j))) := fun j => by
    iintro ⟨#Hinv, ⟨⟨Hr, He⟩, Hs⟩, Hc⟩
    isplitl [He]; · iexact He
    iintro He
    unfold rowRes
    iexists pieceOf q _ ho j, fs, iprop((dst.view.loc c ↦[(dst.view.slice (s.rowRect hg.axis' j)).set]{fullShare}
      ((dst.view.slice (s.rowRect hg.axis' j)).write (Elt F) fd (fun i => src.view.read (Elt F) fs (hg.rowIdx (r j) i)) Finset.univ)) ∗ S.heldEntry qo fo j)
    isplitl [Hs]; · iexact Hs
    isplitl [Hr He]
    · iapply writeUpdate_frame
      isplitl [Hr]
      · iapply (pointsTo_writeUpdate c (v := dst.view.slice (s.rowRect hg.axis' j)) subset_rfl) $$ Hr
      · iexact He
    · have hcu := batch_creditUpdate EC (g := (c, SemLoc.dma sem)) (N := N) (D := D) (γ := γ) (γ₀ := γ₀) (ι := κ) (t j) (hD j)
      unfold rowLanded at hcu
      rw [← hN j] at hcu
      rw [← hN j]
      iapply hcu
      isplitr; · iexact Hinv
      iexact Hc
  iintro ⟨#Hinv, Hs, Hd, Ho, Hc⟩ Hk
  ihave Hd' := (Entails.of_eq (pointsTo_rows c dst.view hg.axis' fullShare fd)) $$ Hd
  ihave Ho' := (Entails.of_eq (pointsTo_entries c offs.view S.entry (entryOf_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι M hA hrd hsum) $$ [Hd' Ho' Hs' Hc]
  · unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hc]; · isplitl [H2] <;> iassumption
    iapply (Transfers.bigSep_mono_pers Finset.univ _ _ _ fun j _ => hres j)
    isplitr; · iexact Hinv
    iexact H3
  · iexact Hk

/-- A family over the members of two gathers is the two families over their rows. -/
theorem bigSep_pair {o : ℕ} (Φ : Fin (o + o) → sProp 𝕄) :
    bigSep Finset.univ Φ = iprop(bigSep Finset.univ (fun j : Fin o => Φ (j.castAdd o)) ∗ bigSep Finset.univ (fun j : Fin o => Φ (j.natAdd o))) := by
  rw [Idealize.SL.BI.bigSep_univ_equiv finSumFinEquiv, Idealize.SL.BI.bigSep_univ_sum]
  rfl

/-- Two gathers of `o` rows each in flight on one semaphore, `u` units of theirs waited for, delivering `P` in the end. -/
def Pair (sem : DmaSem sig) (ι : Ix) (N o : ℕ) (P : sProp 𝕄) (u : ℕ) : sProp 𝕄 :=
  iprop(∃ D : Fin (o + o) → sProp 𝕄, ⌜bigSep Finset.univ D ⊢ P⌝ ∗ Batch EC c (.dma sem) ι N D (o + o) u)

theorem Pair_mono {sem : DmaSem sig} {ι : Ix} {N o : ℕ} {P P' : sProp 𝕄} {u : ℕ} (h : P ⊢ P') :
    Pair EC c sem ι N o P u ⊢ Pair EC c sem ι N o P' u := by
  unfold Pair
  iintro ⟨%D, %hD, H⟩
  iexists D
  isplitr; · ipureintro; exact hD.trans h
  iexact H

/-- Both gathers started, one after the other. -/
theorem wp_gatherPair [Infinite Name] [EC.LandsIn (upEmb : UEmb _ 𝕄)]
    {src src' : Memref sig c.2.kind sp s₀ e} {dst dst' : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {hsrc' : src'.view.WordExact}
    {he : e.bits = 32} {hsp : sp = .hbm ∨ sp = .shared} {hr : s₀.StreamRows a}
    {k : Prog (TpuEff nD τ sig (Elt F) Λ c.2) α}
    {q q' qo qo' : PosShare TreeShare} {fs : Buf (Elt F) (src.view.loc c)} {fs' : Buf (Elt F) (src'.view.loc c)}
    {fd : Buf (Elt F) (dst.view.loc c)} {fd' : Buf (Elt F) (dst'.view.loc c)} {fo : Buf (Elt F) (offs.view.loc c)}
    (ho : 0 < s.size hg.axis')
    (ι : Ix) (N : ℕ) (hN : ∀ j, (dst.slice (s.rowRect hg.axis' j) (s.stride_rowRect hg.axis' j)).view.dmaCredit = N)
    (hN' : ∀ j, (dst'.slice (s.rowRect hg.axis' j) (s.stride_rowRect hg.axis' j)).view.dmaCredit = N)
    (hin : ∀ x, (offs.view.read (Elt F) fo x).toNat < s₀.size hg.axis) :
    iprop(semVal (c, SemLoc.dma sem) 0
        ∗ (src.view.loc c ↦[src.view.set]{q} fs) ∗ (dst.view.loc c ↦[dst.view.set]{fullShare} fd) ∗ (offs.view.loc c ↦[offs.view.set]{qo} fo)
        ∗ (src'.view.loc c ↦[src'.view.set]{q'} fs') ∗ (dst'.view.loc c ↦[dst'.view.set]{fullShare} fd') ∗ (offs.view.loc c ↦[offs.view.set]{qo'} fo))
      ⊢ iprop((Pair EC c sem ι N (s.size hg.axis')
            iprop(((dst.view.loc c ↦[dst.view.set]{fullShare}
                (dst.view.write (Elt F) fd (gatherPayload hg (src.view.read (Elt F) fs) (rows (offs.view.read (Elt F) fo) hn hin)) Finset.univ))
              ∗ (src.view.loc c ↦[src.view.set]{q} fs) ∗ (offs.view.loc c ↦[offs.view.set]{qo} fo))
            ∗ ((dst'.view.loc c ↦[dst'.view.set]{fullShare}
                (dst'.view.write (Elt F) fd' (gatherPayload hg (src'.view.read (Elt F) fs') (rows (offs.view.read (Elt F) fo) hn hin)) Finset.univ))
              ∗ (src'.view.loc c ↦[src'.view.set]{q'} fs') ∗ (offs.view.loc c ↦[offs.view.set]{qo'} fo))) 0
            -∗ wp frame (wpE defs 𝒱 c bd) Set.univ k Q)
          -∗ wp frame (wpE defs 𝒱 c bd) Set.univ (enqueueIndirectGather hp src dst hg offs hn sem hsrc he hsp hr >>= fun _ =>
              enqueueIndirectGather hp src' dst' hg offs hn sem hsrc' he hsp hr >>= fun _ => k) Q) := by
  let D : Fin (s.size hg.axis' + s.size hg.axis') → sProp 𝕄 :=
    Fin.addCases (rowLanded c src dst hg offs hn ho q qo fs fd fo hin) (rowLanded c src' dst' hg offs hn ho q' qo' fs' fd' fo hin)
  have hst : ∀ t, Storable (upEmb : UEmb _ 𝕄) (D t) := fun t => by
    refine Fin.addCases (fun i => ?_) (fun i => ?_) t
    · simp only [D, Fin.addCases_left]; infer_instance
    · simp only [D, Fin.addCases_right]; infer_instance
  have h1 : ∀ j, rowLanded c src dst hg offs hn ho q qo fs fd fo hin j ⊢ D (j.castAdd _) := fun j => by
    simp only [D, Fin.addCases_left]; exact .rfl
  have h2 : ∀ j, rowLanded c src' dst' hg offs hn ho q' qo' fs' fd' fo hin j ⊢ D (j.natAdd _) := fun j => by
    simp only [D, Fin.addCases_right]; exact .rfl
  have hall : bigSep Finset.univ D ⊢ iprop(bigSep Finset.univ (rowLanded c src dst hg offs hn ho q qo fs fd fo hin)
      ∗ bigSep Finset.univ (rowLanded c src' dst' hg offs hn ho q' qo' fs' fd' fo hin)) := by
    rw [bigSep_pair]
    refine sep_mono (Entails.of_eq ?_) (Entails.of_eq ?_)
    · simp only [D, Fin.addCases_left]
    · simp only [D, Fin.addCases_right]
  iintro ⟨Hv, Hs, Hd, Ho, Hs', Hd', Ho'⟩ Hk
  imod (batch_alloc EC N D (g := (c, SemLoc.dma sem))) $$ Hv with ⟨%γ, %γ₀, %κ, #Hinv, H0, Hc⟩
  ihave Hc := (Entails.of_eq (bigSep_pair fun t => (count EC (γ t) 0 : sProp 𝕄))) $$ Hc
  icases Hc with ⟨Hc, Hc'⟩
  iapply (wp_gatherInBatch EC 𝒱 c bd ho ι N _ hN rfl hin D (fun j => j.castAdd _) h1) $$ [Hs Hd Ho Hc]
  · isplitr; · iexact Hinv
    isplitl [Hs]; · iexact Hs
    isplitl [Hd]; · iexact Hd
    isplitl [Ho]; · iexact Ho
    iexact Hc
  iintro Hcr
  iapply (wp_gatherInBatch EC 𝒱 c bd ho ι N _ hN' rfl hin D (fun j => j.natAdd _) h2) $$ [Hs' Hd' Ho' Hc']
  · isplitr; · iexact Hinv
    isplitl [Hs']; · iexact Hs'
    isplitl [Hd']; · iexact Hd'
    isplitl [Ho']; · iexact Ho'
    iexact Hc'
  iintro Hcr'
  iapply Hk
  unfold Pair
  iexists D
  isplitr
  · ipureintro
    exact hall.trans (sep_mono (rowsLanded c src dst hg offs hn ho q qo fs fd fo hin) (rowsLanded c src' dst' hg offs hn ho q' qo' fs' fd' fo hin))
  unfold Batch
  iexists γ, γ₀, κ
  isplitr; · iexact Hinv
  isplitr
  · rw [show pending (n := s.size hg.axis' + s.size hg.axis') (s.size hg.axis' + s.size hg.axis') = ∅ from by
      unfold pending; rw [Finset.filter_eq_empty_iff]; intro t _; omega, bigSep_empty]
    iempintro
  isplitl [H0]; · iexact H0
  rw [Nat.sub_zero, Nat.add_mul, ← tallyAt_add]
  isplitl [Hcr] <;> iassumption

/-- The first of the two waits: half the units waited for, nothing delivered yet. -/
theorem wp_waitPairFirst [EC.LandsIn (upEmb : UEmb _ 𝕄)] {sp' : Space} {s' : Shape} {e' : EltTy} {κ' : Kind} {sem : DmaSem sig}
    {srcw : Memref sig c.2.kind sp' s' e'} {dstw : Memref sig κ' .vmem s e} {hsrc : srcw.view.WordExact} {hdst : dstw.view.WordExact}
    {k : Prog (TpuEff nD τ sig (Elt F) Λ c.2) α} (ι : Ix) {N o : ℕ} (hJ : dstw.view.dmaCredit = o * N)
    {P : sProp 𝕄} {O : CellTallies nD τ sig Ix} {W : Waits sig Ix} :
    iprop(Pair EC c sem ι N o P 0 ∗ owes c O W ∗ MayWait c (.dma sem) ι O)
      ⊢ iprop((iprop(Pair EC c sem ι N o P (o * N) ∗ owes c O (insert (SemLoc.dma sem, ι) W)) -∗ wp frame (wpE defs 𝒱 c bd) Set.univ k Q)
          -∗ wp frame (wpE defs 𝒱 c bd) Set.univ (waitIndirectGather sem srcw dstw hsrc hdst >>= fun _ => k) Q) := by
  rw [waitIndirectGather_bind]
  unfold Pair
  iintro ⟨⟨%D, %hD, HB⟩, HO, HM⟩ Hk
  iapply (wp_waitBatchMulO EC 𝒱 c bd ι o hJ (D := D) (j := o + o) (by rw [Nat.zero_add, Nat.mul_comm]; exact Nat.mul_le_mul_left _ (Nat.le_add_right _ _))) $$ [HB HO HM]
  · isplitl [HB]; · iexact HB
    isplitl [HO] <;> iassumption
  iintro ⟨HB, HO⟩
  iapply Hk
  isplitl [HB]
  · iexists D
    isplitr; · ipureintro; exact hD
    rw [Nat.zero_add]; iexact HB
  iexact HO

/-- The second of the two waits: everything delivered. -/
theorem wp_waitPairSecond [EC.LandsIn (upEmb : UEmb _ 𝕄)] {sp' : Space} {s' : Shape} {e' : EltTy} {κ' : Kind} {sem : DmaSem sig}
    {srcw : Memref sig c.2.kind sp' s' e'} {dstw : Memref sig κ' .vmem s e} {hsrc : srcw.view.WordExact} {hdst : dstw.view.WordExact}
    {k : Prog (TpuEff nD τ sig (Elt F) Λ c.2) α} (ι : Ix) {N o : ℕ} (hJ : dstw.view.dmaCredit = o * N) (hN : 0 < N)
    {P : sProp 𝕄} {O : CellTallies nD τ sig Ix} {W : Waits sig Ix} :
    iprop(Pair EC c sem ι N o P (o * N) ∗ owes c O W ∗ MayWait c (.dma sem) ι O)
      ⊢ iprop((iprop(P ∗ semVal (c, .dma sem) 0 ∗ owes c O (insert (SemLoc.dma sem, ι) W)) -∗ wp frame (wpE defs 𝒱 c bd) Set.univ k Q)
          -∗ wp frame (wpE defs 𝒱 c bd) Set.univ (waitIndirectGather sem srcw dstw hsrc hdst >>= fun _ => k) Q) := by
  rw [waitIndirectGather_bind]
  unfold Pair
  iintro ⟨⟨%D, %hD, HB⟩, HO, HM⟩ Hk
  iapply (wp_waitBatchAllO EC 𝒱 c bd ι hJ hN (D := D) (by rw [Nat.mul_comm N, Nat.add_mul])) $$ [HB HO HM]
  · isplitl [HB]; · iexact HB
    isplitl [HO] <;> iassumption
  iintro ⟨HD, Hv, HO⟩
  iapply Hk
  isplitl [HD]; · iapply hD; iexact HD
  isplitl [Hv] <;> iassumption

end Cert.Proof
-- ==== Proof.Moves.lean ====
/-
  The moves of the run over held memrefs: a slice taken out and put back, a plain copy, and a pair of indirect gathers.
-/
module

public import proofs.«01_k».proof.Proof.Hold
public import proofs.«01_k».proof.Proof.Gather

@[expose] public section

noncomputable section

namespace Cert.Proof

open Idealize.ShloMosaic
open Idealize.SL.BI (sProp Storable)
open scoped Idealize.SL.BI
open Idealize.SL.BI.BIBase Idealize.SL.BI.Laws Idealize.SL.Sem Idealize.SL.ProofMode
open Idealize.SL.RA
open Idealize.ShloMosaic.SparseCore Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s : Shape} {e : EltTy} {α : Type}

local notation "𝕄" => MT nD τ sig Ix (Elt F) Name U Lvl

/-- Contents that a view reads alike agree on the view's elements. -/
theorem agree_of_read {κ : Kind} (v : View sig κ sp s e) (f g : v.ty.Contents (Elt F)) (h : v.read (Elt F) f = v.read (Elt F) g) :
    ∀ i ∈ v.set, f i = g i := by
  intro i hi
  obtain ⟨x, -, rfl⟩ := Finset.mem_map.mp hi
  have hx := congrFun h x
  rw [View.read_apply, View.read_apply] at hx
  exact (cast_inj _).mp hx

/-- Held contents may be replaced by others that the memref reads alike. -/
theorem holds_of_pointsTo (m : Memref sig c.2.kind sp s e) (q : PosShare TreeShare) (f : Buf (Elt F) (m.view.loc c)) (V : s.Idx → Elt F e)
    (h : m.view.read (Elt F) f = V) : (m.view.loc c ↦[m.view.set]{q} f : sProp 𝕄) ⊢ holds c m q V := by
  unfold holds
  iintro H
  iexists f
  isplitr; · ipureintro; exact h
  iexact H

theorem pointsTo_of_holds (m : Memref sig c.2.kind sp s e) (q : PosShare TreeShare) (f : Buf (Elt F) (m.view.loc c)) (V : s.Idx → Elt F e)
    (h : m.view.read (Elt F) f = V) : (holds c m q V : sProp 𝕄) ⊢ (m.view.loc c ↦[m.view.set]{q} f) := by
  unfold holds
  iintro ⟨%g, %hg, H⟩
  have hc := pointsTo_congr (Ix := Ix) (Name := Name) (U := U) (Lvl := Lvl) (ℓ := m.view.loc c) (q := q) (g := f) (agree_of_read m.view g f (hg.trans h.symm))
  iapply (Entails.of_eq hc)
  iexact H

/-- A held memref, its share halved. -/
theorem holds_halves (m : Memref sig c.2.kind sp s e) (q : PosShare TreeShare) (V : s.Idx → Elt F e) :
    (holds c m q V : sProp 𝕄) ⊣⊢ iprop(holds c m q.left V ∗ holds c m q.right V) := by
  constructor
  · iintro H
    unfold holds
    icases H with ⟨%f, %hf, H⟩
    ihave H := (pointsTo_share (f := f) (PosShare.mem_left_op_right q)).1 $$ H
    icases H with ⟨H1, H2⟩
    isplitl [H1]
    · iexists f; isplitr; · ipureintro; exact hf
      iexact H1
    · iexists f; isplitr; · ipureintro; exact hf
      iexact H2
  · iintro ⟨H1, H2⟩
    unfold holds
    icases H1 with ⟨%f, %hf, H1⟩
    ihave H2 := (pointsTo_of_holds c m q.right f V hf) $$ [H2]
    · unfold holds; iexact H2
    iexists f
    isplitr; · ipureintro; exact hf
    iapply (pointsTo_share (f := f) (PosShare.mem_left_op_right q)).2
    isplitl [H1] <;> iassumption

/-- A held memref, its share cut in four. -/
theorem holds_quarters (m : Memref sig c.2.kind sp s e) (q : PosShare TreeShare) (V : s.Idx → Elt F e) :
    (holds c m q V : sProp 𝕄) ⊣⊢ iprop((holds c m q.left.left V ∗ holds c m q.left.right V) ∗ (holds c m q.right.left V ∗ holds c m q.right.right V)) :=
  ⟨(holds_halves c m q V).1.trans (sep_mono (holds_halves c m _ V).1 (holds_halves c m _ V).1),
    (sep_mono (holds_halves c m _ V).2 (holds_halves c m _ V).2).trans (holds_halves c m q V).2⟩

/-- A slice of a held memref, and the way back. -/
theorem holds_slice (m : Memref sig c.2.kind sp s e) (q : PosShare TreeShare) (V : s.Idx → Elt F e) (r : Rect s) (hr : ∀ a, r.stride a = 1) :
    (holds c m q V : sProp 𝕄)
      ⊢ iprop(holds c (m.slice r hr) q (fun i => V (r.emb i)) ∗ (holds c (m.slice r hr) q (fun i => V (r.emb i)) -∗ holds c m q V)) := by
  have hsub : (m.slice r hr).view.set ⊆ m.view.set := View.set_slice_subset _ _
  iintro H
  unfold holds
  icases H with ⟨%f, %hf, H⟩
  subst hf
  ihave H := (pointsTo_split_subset (q := q) (f := f) (S := m.view.set) hsub).1 $$ H
  icases H with ⟨H, Hr⟩
  isplitl [H]
  · iexists f
    isplitr; · ipureintro; rfl
    iexact H
  iintro ⟨%g, %hg, H⟩
  iexists f
  isplitr; · ipureintro; rfl
  iapply (pointsTo_split_subset (q := q) (f := f) (S := m.view.set) hsub).2
  isplitl [H]
  · have hc := pointsTo_congr (Ix := Ix) (Name := Name) (U := U) (Lvl := Lvl) (ℓ := m.view.loc c) (q := q) (g := f) (agree_of_read (m.slice r hr).view g f hg)
    iapply (Entails.of_eq hc)
    iexact H
  iexact Hr

/-- A plain copy between two held memrefs. -/
theorem wp_copy_holds {Q : α → sProp 𝕄} [Infinite Name] [EC.LandsIn (upEmb : UEmb _ 𝕄)] {sp' : Space}
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ c.2) α} {q : PosShare TreeShare} {V : s.Idx → Elt F e}
    (ι : Ix) (N : ℕ) (hN : dst.view.amount (.dma sem) = N) (hN0 : 0 < N) :
    iprop(holds c src q V ∗ some_ c dst ∗ semVal (c, SemLoc.dma sem) 0)
      ⊢ iprop((Flight EC c (.dma sem) ι N iprop(holds c dst fullShare V ∗ holds c src q V) -∗ wp frame (wpE defs 𝒱 c bd) Set.univ (k ⟨⟩) Q)
          -∗ wp frame (wpE defs 𝒱 c bd) Set.univ (.op (.enqueueDma src (.here dst) (.dma sem) hsrc hdst hsem) k) Q) := by
  iintro ⟨Hs, ⟨%V', Hd⟩, Hv⟩ Hk
  unfold holds
  icases Hs with ⟨%fs, %hs, Hs⟩
  icases Hd with ⟨%fd, %hd, Hd⟩
  subst hs
  iapply (wp_dmaLocal EC 𝒱 c bd (Sd := dst.view.set) ι N hN hN0 (Finset.Subset.refl _)) $$ [Hs Hd Hv]
  · isplitl [Hs]; · iexact Hs
    isplitl [Hd]; · iexact Hd
    iexact Hv
  iintro Hf
  iapply Hk
  iapply (Flight_mono EC c (sep_mono (holds_of_pointsTo c dst fullShare _ _ (View.read_write_univ _ _)) (holds_of_pointsTo c src q _ _ rfl)))
  iexact Hf

/-- The wait of a copy in flight. -/
theorem wp_wait_flight {Q : α → sProp 𝕄} [EC.LandsIn (upEmb : UEmb _ 𝕄)] {sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(MayWaits c ι O ∗ Flight EC c (.dma sem) ι N D ∗ (∃ W', ⌜∀ p ∈ W', p ∈ W ∨ p.2 = ι⌝ ∗ owes c O W'))
      ⊢ iprop((iprop(D ∗ semVal (c, .dma sem) 0 ∗ (∃ W', ⌜∀ p ∈ W', p ∈ W ∨ p.2 = ι⌝ ∗ owes c O W')) -∗ wp frame (wpE defs 𝒱 c bd) Set.univ (k ⟨⟩) Q)
          -∗ wp frame (wpE defs 𝒱 c bd) Set.univ (.op (.waitDma2 sem srcw dstw hsrc hdst) k) Q) := by
  iintro ⟨#Hmw, Hf, %W', %hW', HO⟩ Hk
  iapply (wp_waitLocalO EC 𝒱 c bd ι hN) $$ [Hf HO]
  · isplitl [Hf]; · iexact Hf
    isplitl [HO]; · iexact HO
    iapply (MayWaits.elim (SemLoc.dma sem)) $$ Hmw
  iintro ⟨HD, Hv, HO⟩
  iapply Hk
  isplitl [HD]; · iexact HD
  isplitl [Hv]; · iexact Hv
  iexists _
  isplitr
  swap; · iexact HO
  ipureintro
  intro p hp
  rcases Finset.mem_insert.mp hp with hp | hp
  · exact .inr (hp ▸ rfl)
  · exact hW' p hp

section Gathers

variable {s₀ si : Shape} {a : Nat}

/-- Two gathers from held tables through one held list. -/
theorem wp_gather_holds {Q : α → sProp 𝕄} [Infinite Name] [EC.LandsIn (upEmb : UEmb _ 𝕄)]
    {src src' : Memref sig c.2.kind sp s₀ e} {dst dst' : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {hsrc' : src'.view.WordExact}
    {he : e.bits = 32} {hsp : sp = .hbm ∨ sp = .shared} {hr : s₀.StreamRows a}
    {k : Prog (TpuEff nD τ sig (Elt F) Λ c.2) α}
    {q q' qo qo' : PosShare TreeShare} {V V' : s₀.Idx → Elt F e} {L : si.Idx → Elt F .i32}
    (ho : 0 < s.size hg.axis')
    (ι : Ix) (N : ℕ) (hN : ∀ j, (dst.slice (s.rowRect hg.axis' j) (s.stride_rowRect hg.axis' j)).view.dmaCredit = N)
    (hN' : ∀ j, (dst'.slice (s.rowRect hg.axis' j) (s.stride_rowRect hg.axis' j)).view.dmaCredit = N)
    (hin : ∀ x, (L x).toNat < s₀.size hg.axis) :
    iprop(semVal (c, SemLoc.dma sem) 0
        ∗ holds c src q V ∗ some_ c dst ∗ holds c offs qo L
        ∗ holds c src' q' V' ∗ some_ c dst' ∗ holds c offs qo' L)
      ⊢ iprop((Pair EC c sem ι N (s.size hg.axis')
            iprop((holds c dst fullShare (gatherPayload hg V (SparseCore.rows L hn hin)) ∗ holds c src q V ∗ holds c offs qo L)
              ∗ (holds c dst' fullShare (gatherPayload hg V' (SparseCore.rows L hn hin)) ∗ holds c src' q' V' ∗ holds c offs qo' L)) 0
            -∗ wp frame (wpE defs 𝒱 c bd) Set.univ k Q)
          -∗ wp frame (wpE defs 𝒱 c bd) Set.univ (enqueueIndirectGather hp src dst hg offs hn sem hsrc he hsp hr >>= fun _ =>
              enqueueIndirectGather hp src' dst' hg offs hn sem hsrc' he hsp hr >>= fun _ => k) Q) := by
  iintro ⟨Hv, Hs, ⟨%Y, Hd⟩, Ho, Hs', ⟨%Y', Hd'⟩, Ho'⟩ Hk
  unfold holds
  icases Hs with ⟨%fs, %hs, Hs⟩
  icases Hs' with ⟨%fs', %hs', Hs'⟩
  icases Hd with ⟨%fd, %hd, Hd⟩
  icases Hd' with ⟨%fd', %hd', Hd'⟩
  icases Ho with ⟨%fo, %ho1, Ho⟩
  icases Ho' with ⟨%fo', %ho2, Ho'⟩
  have hc := pointsTo_congr (Ix := Ix) (Name := Name) (U := U) (Lvl := Lvl) (ℓ := offs.view.loc c) (q := qo') (g := fo) (agree_of_read offs.view fo' fo (ho2.trans ho1.symm))
  ihave Ho' := (Entails.of_eq hc) $$ Ho'
  subst hs hs' ho1
  iapply (wp_gatherPair EC 𝒱 c bd (fs := fs) (fs' := fs') (fd := fd) (fd' := fd') (fo := fo) ho ι N hN hN' hin) $$ [Hv Hs Hs' Hd Hd' Ho Ho']
  · isplitl [Hv]; · iexact Hv
    isplitl [Hs]; · iexact Hs
    isplitl [Hd]; · iexact Hd
    isplitl [Ho]; · iexact Ho
    isplitl [Hs']; · iexact Hs'
    isplitl [Hd']; · iexact Hd'
    iexact Ho'
  iintro Hp
  iapply Hk
  iapply (Pair_mono EC c (sep_mono
    (sep_mono (holds_of_pointsTo c dst fullShare _ _ (View.read_write_univ _ _)) (sep_mono (holds_of_pointsTo c src q _ _ rfl) (holds_of_pointsTo c offs qo _ _ rfl)))
    (sep_mono (holds_of_pointsTo c dst' fullShare _ _ (View.read_write_univ _ _)) (sep_mono (holds_of_pointsTo c src' q' _ _ rfl) (holds_of_pointsTo c offs qo' _ _ rfl)))))
  iexact Hp

end Gathers

end Cert.Proof
-- ==== Proof.Ring.lean ====
/-
  The ring: what a slot, a result buffer and the result's chunks hold before a step, and the step.
-/
module

public import proofs.«01_k».proof.Proof.Steps
public import proofs.«01_k».proof.Proof.RowRun
public import proofs.«01_k».proof.Proof.Moves

@[expose] public section

noncomputable section

namespace Cert.Proof

open Cert.KernelIdeal Idealize.ShloMosaic
open Cert.KernelIdeal.Facts₀ Cert.KernelIdeal.Facts
open Idealize.SL.BI (sProp Storable bigSep bigSep_insert)
open scoped Idealize.SL.BI
open Idealize.SL.BI.BIBase Idealize.SL.BI.Laws Idealize.SL.Sem Idealize.SL.ProofMode
open Idealize.SL.RA
open Idealize.ShloMosaic.ValueIdx
open Idealize.ShloMosaic.SparseCore (gatherPayload)
open Idealize.ShloMosaic.Transfers (Flight Flight_mono MayWaits)

variable {F : FTy → Type} [FloatOps F] [Cert.KernelIdeal.Facts]

/-! ## The values -/

/-- What a task reads: `x`, the two tables, its list of table rows, and which task it is. -/
structure Vals (F : FTy → Type) where
  /-- `x`. -/
  X : S16384x1024.Idx → Elt F .f32
  /-- The table of means. -/
  M : S512x128.Idx → Elt F .f32
  /-- The table of reciprocals. -/
  R : S512x128.Idx → Elt F .f32
  /-- The list. -/
  L : S4096.Idx → Elt F .i32
  hL : ∀ j, (L j).toNat < 512
  /-- The task's number. -/
  w : Nat
  hw : w < 32

variable (V : Vals F)

theorem inbX (w c : Nat) (hw : w < 32) (hc : c < 64) : ∀ a, (![8 * (64 * w + c), 0] : Fin 2 → Nat) a + S8x1024.size a ≤ S16384x1024.size a := by
  intro a; match a with
  | 0 => show 8 * (64 * w + c) + 8 ≤ 16384; omega
  | 1 => show 0 + 1024 ≤ 1024; omega

theorem inbL (c : Nat) (hc : c < 64) : ∀ a, (![64 * c] : Fin 1 → Nat) a + S64.size a ≤ S4096.size a := by
  intro a; match a with
  | 0 => show 64 * c + 64 ≤ 4096; omega

/-- Chunk `c` of the task's rows of `x`. -/
def Vals.xc (c : Nat) (hc : c < 64) : S8x1024.Idx → Elt F .f32 :=
  fun p => V.X ((Rect.unit (s := S16384x1024) ![8 * (64 * V.w + c), 0] S8x1024.size (inbX V.w c V.hw hc)).emb p)

/-- The sixty-four words of the list behind chunk `c`. -/
def Vals.lc (c : Nat) (hc : c < 64) : S64.Idx → Elt F .i32 :=
  fun p => V.L ((Rect.unit (s := S4096) ![64 * c] S64.size (inbL c hc)).emb p)

/-- The rows of a table behind chunk `c`. -/
def Vals.gc (T : S512x128.Idx → Elt F .f32) (c : Nat) (hc : c < 64) : S64x128.Idx → Elt F .f32 :=
  gatherPayload gathers_S512x128_S64x128 (fun i => T ((Rect.unit (s := S512x128) ![0, 0] S512x128.size inb_S512x128_S512x128_0_0).emb i))
    (SparseCore.rows (V.lc c hc) rfl (fun _ => V.hL _))

/-- Chunk `c` of the result. -/
def Vals.tc (c : Nat) (hc : c < 64) : S8x1024.Idx → Elt F .f32 :=
  fun p => norm (V.xc c hc p) (V.gc V.M c hc (blockAt (p 0) (p 1))) (V.gc V.R c hc (blockAt (p 0) (p 1)))

/-- The shares a slot reads with: of `x`, of the two tables, and two of the list. -/
structure Shr where
  /-- Of `x`. -/
  x : PosShare TreeShare
  /-- Of the means. -/
  m : PosShare TreeShare
  /-- Of the reciprocals. -/
  r : PosShare TreeShare
  /-- Of the list, for the means. -/
  i : PosShare TreeShare
  /-- Of the list, for the reciprocals. -/
  j : PosShare TreeShare

/-- What the transfers of a slot credit: `NX` a chunk of `x`, `NG` a gathered row. -/
structure SlotOk (S : Slot) (NX NG : ℕ) : Prop where
  x : S.xv.view.dmaCredit = NX
  m : ∀ j, (S.mv.slice (S64x128.rowRect gathers_S512x128_S64x128.axis' j) (S64x128.stride_rowRect gathers_S512x128_S64x128.axis' j)).view.dmaCredit = NG
  r : ∀ j, (S.rv.slice (S64x128.rowRect gathers_S512x128_S64x128.axis' j) (S64x128.stride_rowRect gathers_S512x128_S64x128.axis' j)).view.dmaCredit = NG
  ms : S.mv.view.dmaCredit = S64x128.size gathers_S512x128_S64x128.axis' * NG
  rs : S.rv.view.dmaCredit = S64x128.size gathers_S512x128_S64x128.axis' * NG

variable {Ix : Type} [DecidableEq Ix] {Name : Type} [DecidableEq Name] {U : Type} [URA U] {Lvl : Type} [Preorder Lvl]
variable (EC : UEmb Counters (MT nD τ sig Ix (Elt F) Name U Lvl)) (ι : Ix)
variable {defs : Defs nD τ sig (Elt F) Λ₀} (𝒱 : Variants) (d : Dev nD) (i : grid1.Coords) (bd : Option 𝒱.V) (A : Arrs)

local notation "𝕄" => MT nD τ sig Ix (Elt F) Name U Lvl

/-! ## The states -/

/-- The shares of the arrays a slot reads. -/
def Res (sh : Shr) : sProp 𝕄 :=
  iprop(holds (thr d i) A.x sh.x V.X ∗ holds (thr d i) A.tm sh.m V.M ∗ holds (thr d i) A.tr sh.r V.R
    ∗ holds (thr d i) A.idx sh.i V.L ∗ holds (thr d i) A.idx sh.j V.L)

/-- A slot with nothing in flight. -/
def Idle (S : Slot) (sh : Shr) : sProp 𝕄 :=
  iprop(some_ (thr d i) S.xv ∗ some_ (thr d i) S.mv ∗ some_ (thr d i) S.rv
    ∗ semVal (thr d i, SemLoc.dma S.ins.sem) 0 ∗ semVal (thr d i, SemLoc.dma S.gas.sem) 0 ∗ Res V d i A sh)

/-- A slot whose copy and whose two gathers, of chunk `c`, are in flight. -/
def Busy (S : Slot) (sh : Shr) (NX NG : ℕ) (c : Nat) (hc : c < 64) : sProp 𝕄 :=
  iprop(∃ Bx Bg, Flight EC (thr d i) (.dma S.ins.sem) ι NX iprop(holds (thr d i) S.xv fullShare (V.xc c hc) ∗ Bx)
    ∗ Pair EC (thr d i) S.gas.sem ι NG (S64x128.size gathers_S512x128_S64x128.axis')
        iprop((holds (thr d i) S.mv fullShare (V.gc V.M c hc) ∗ holds (thr d i) S.rv fullShare (V.gc V.R c hc)) ∗ Bg) 0
    ∗ (iprop(Bx ∗ Bg) -∗ Res V d i A sh))

/-- A slot before the step of chunk `c`: filled, unless there is no such chunk. -/
def SlotAt (S : Slot) (sh : Shr) (NX NG : ℕ) (c : Nat) : sProp 𝕄 :=
  if hc : c < 64 then Busy V EC ι d i A S sh NX NG c hc else Idle V d i A S sh

/-- A slot whose chunk `c` is in. -/
def Full (S : Slot) (sh : Shr) (c : Nat) (hc : c < 64) : sProp 𝕄 :=
  iprop(holds (thr d i) S.xv fullShare (V.xc c hc) ∗ holds (thr d i) S.mv fullShare (V.gc V.M c hc) ∗ holds (thr d i) S.rv fullShare (V.gc V.R c hc)
    ∗ semVal (thr d i, SemLoc.dma S.ins.sem) 0 ∗ semVal (thr d i, SemLoc.dma S.gas.sem) 0 ∗ Res V d i A sh)

/-- The place of chunk `c` in the result. -/
abbrev outAt (w c : Nat) (hw : w < 32) (hc : c < 64) : Memref sig .scVector .hbm S8x1024 .f32 := rowsM A.out ![8 * (64 * w + c), 0] (inbX w c hw hc)

/-- Chunk `c` of the result, stored. -/
def Done (c : Nat) (hc : c < 64) : sProp 𝕄 := holds (thr d i) (outAt A V.w c V.hw hc) fullShare (V.tc c hc)

/-- A result buffer before the step of chunk `c`: the store of chunk `c - 2` in flight, if there is one. -/
def OutAt (yv : Memref sig .scVector .vmem S8x1024 .f32) (outs : DmaSems sig S_) (NO : ℕ) (c : Nat) : sProp 𝕄 :=
  if h : 2 ≤ c ∧ c - 2 < 64 then
    Flight EC (thr d i) (.dma outs.sem) ι NO iprop(Done V d i A (c - 2) h.2 ∗ some_ (thr d i) yv)
  else iprop(some_ (thr d i) yv ∗ semVal (thr d i, SemLoc.dma outs.sem) 0)

/-- The chunks from `c` on. -/
def fromC (c : Nat) : Finset (Fin 64) := Finset.univ.filter fun j => c ≤ j.val
/-- The chunks below `c - 2`. -/
def belowC (c : Nat) : Finset (Fin 64) := Finset.univ.filter fun j => j.val + 2 < c

theorem fromC_succ (c : Nat) (hc : c < 64) : fromC c = insert ⟨c, hc⟩ (fromC (c + 1)) := by
  ext j; simp only [fromC, Finset.mem_filter, Finset.mem_univ, true_and, Finset.mem_insert, Fin.ext_iff]; omega
theorem notMem_fromC (c : Nat) (hc : c < 64) : (⟨c, hc⟩ : Fin 64) ∉ fromC (c + 1) := by
  simp [fromC]
theorem belowC_succ (c : Nat) (hc : 2 ≤ c) (hc' : c - 2 < 64) : belowC (c + 1) = insert ⟨c - 2, hc'⟩ (belowC c) := by
  ext j; simp only [belowC, Finset.mem_filter, Finset.mem_univ, true_and, Finset.mem_insert, Fin.ext_iff]; omega
theorem notMem_belowC (c : Nat) (hc : 2 ≤ c) (hc' : c - 2 < 64) : (⟨c - 2, hc'⟩ : Fin 64) ∉ belowC c := by
  simp only [belowC, Finset.mem_filter, Finset.mem_univ, true_and]; omega
theorem belowC_two (c : Nat) (hc : c < 2) : belowC (c + 1) = belowC c := by
  ext j; simp only [belowC, Finset.mem_filter, Finset.mem_univ, true_and]; omega

/-- The result's chunks before the step of chunk `c`: those from `c` on as they were, those below `c - 2` stored. -/
def OutRest (c : Nat) : sProp 𝕄 :=
  iprop((bigSep (fromC c) fun j => some_ (thr d i) (outAt A V.w j.val V.hw j.isLt)) ∗ bigSep (belowC c) fun j => Done V d i A j.val j.isLt)

/-- What the task owes, the waits of its own recorded. -/
abbrev Owing (O : CellTallies nD τ sig Ix) (W : Waits sig Ix) : sProp 𝕄 := iprop(∃ W', ⌜∀ p ∈ W', p ∈ W ∨ p.2 = ι⌝ ∗ owes (thr d i) O W')

/-! ## Filling a slot -/

theorem sep_regroup (a b c a' b' c' : sProp 𝕄) : iprop((a ∗ b ∗ c) ∗ (a' ∗ b' ∗ c')) ⊢ iprop((a ∗ a') ∗ (b ∗ c) ∗ (b' ∗ c')) := by
  iintro ⟨⟨Ha, Hb, Hc⟩, Ha', Hb', Hc'⟩
  isplitl [Ha Ha']; · isplitl [Ha] <;> iassumption
  isplitl [Hb Hc]; · isplitl [Hb] <;> iassumption
  isplitl [Hb'] <;> iassumption

variable {α : Type} [Infinite Name] [EC.LandsIn (upEmb : UEmb _ (MT nD τ sig Ix (Elt F) Name U Lvl))]

theorem start_wp {Q : α → sProp 𝕄} (S : Slot) (sh : Shr) (NX NG : ℕ) (hS : SlotOk S NX NG) (hNX : 0 < NX) (c : Nat) (hc : c < 64)
    (off : Fin 2 → Nat) (hoff : ∀ a, off a + S8x1024.size a ≤ S16384x1024.size a) (offi : Fin 1 → Nat) (hoffi : ∀ a, offi a + S64.size a ≤ S4096.size a)
    (eo : off = ![8 * (64 * V.w + c), 0]) (ei : offi = ![64 * c]) (k : Prog (TpuEff nD τ sig (Elt F) Λ₀ (proc i)) α) :
    (Idle V d i A S sh : sProp 𝕄)
      ⊢ iprop((Busy V EC ι d i A S sh NX NG c hc -∗ wp frame (wpE defs 𝒱 (thr d i) bd) Set.univ k Q)
          -∗ wp frame (wpE defs 𝒱 (thr d i) bd) Set.univ (start i A S off hoff offi hoffi k) Q) := by
  subst eo ei
  unfold Idle Res start
  iintro ⟨Hx, Hm, Hr, Hvi, Hvg, HX, HM, HR, HI, HJ⟩ Hk
  ihave HX := (holds_slice (thr d i) A.x sh.x V.X (Rect.unit (s := S16384x1024) ![8 * (64 * V.w + c), 0] S8x1024.size hoff) (fun _ => rfl)) $$ HX
  icases HX with ⟨HX, HXb⟩
  ihave HM := (holds_slice (thr d i) A.tm sh.m V.M (Rect.unit (s := S512x128) ![0, 0] S512x128.size inb_S512x128_S512x128_0_0) (fun _ => rfl)) $$ HM
  icases HM with ⟨HM, HMb⟩
  ihave HR := (holds_slice (thr d i) A.tr sh.r V.R (Rect.unit (s := S512x128) ![0, 0] S512x128.size inb_S512x128_S512x128_0_0) (fun _ => rfl)) $$ HR
  icases HR with ⟨HR, HRb⟩
  ihave HI := (holds_slice (thr d i) A.idx sh.i V.L (Rect.unit (s := S4096) ![64 * c] S64.size hoffi) (fun _ => rfl)) $$ HI
  icases HI with ⟨HI, HIb⟩
  ihave HJ := (holds_slice (thr d i) A.idx sh.j V.L (Rect.unit (s := S4096) ![64 * c] S64.size hoffi) (fun _ => rfl)) $$ HJ
  icases HJ with ⟨HJ, HJb⟩
  iapply (wp_copy_holds EC 𝒱 (thr d i) bd ι NX hS.x hNX) $$ [HX Hx Hvi]
  · isplitl [HX]; · iexact HX
    isplitl [Hx]; · iexact Hx
    iexact Hvi
  iintro Hf
  iapply (wp_gather_holds EC 𝒱 (thr d i) bd (by decide) ι NG hS.m hS.r (fun _ => V.hL _)) $$ [HM HR Hm Hr HI HJ Hvg]
  · isplitl [Hvg]; · iexact Hvg
    isplitl [HM]; · iexact HM
    isplitl [Hm]; · iexact Hm
    isplitl [HI]; · iexact HI
    isplitl [HR]; · iexact HR
    isplitl [Hr]; · iexact Hr
    iexact HJ
  iintro Hp
  iapply Hk
  unfold Busy
  iexists _, iprop((holds (thr d i) (tabM A.tm) sh.m _ ∗ holds (thr d i) (listM A.idx ![64 * c] hoffi) sh.i _) ∗ (holds (thr d i) (tabM A.tr) sh.r _ ∗ holds (thr d i) (listM A.idx ![64 * c] hoffi) sh.j _))
  isplitl [Hf]; · iexact Hf
  isplitl [Hp]
  · iapply (Pair_mono EC (thr d i) (sep_regroup _ _ _ _ _ _))
    iexact Hp
  unfold Res
  iintro ⟨Hx, ⟨HM, HI⟩, HR, HJ⟩
  isplitl [Hx HXb]; · iapply HXb; iexact Hx
  isplitl [HM HMb]; · iapply HMb; iexact HM
  isplitl [HR HRb]; · iapply HRb; iexact HR
  isplitl [HI HIb]; · iapply HIb; iexact HI
  iapply HJb; iexact HJ

end Cert.Proof
-- ==== Proof.Step.lean ====
/-
  One step of the ring: a chunk waited for, computed, its store started, and the slot filled with the chunk four on.
-/
module

public import proofs.«01_k».proof.Proof.Ring

@[expose] public section

noncomputable section

namespace Cert.Proof

open Cert.KernelIdeal Idealize.ShloMosaic
open Cert.KernelIdeal.Facts₀ Cert.KernelIdeal.Facts
open Idealize.SL.BI (sProp Storable bigSep bigSep_insert)
open scoped Idealize.SL.BI
open Idealize.SL.BI.BIBase Idealize.SL.BI.Laws Idealize.SL.Sem Idealize.SL.ProofMode
open Idealize.SL.RA
open Idealize.ShloMosaic.ValueIdx
open Idealize.ShloMosaic.Transfers (Flight Flight_mono MayWaits)

variable {F : FTy → Type} [FloatOps F] [Cert.KernelIdeal.Facts] (V : Vals F)
variable {Ix : Type} [DecidableEq Ix] {Name : Type} [DecidableEq Name] {U : Type} [URA U] {Lvl : Type} [Preorder Lvl]
variable (EC : UEmb Counters (MT nD τ sig Ix (Elt F) Name U Lvl)) (ι : Ix)
variable {defs : Defs nD τ sig (Elt F) Λ₀} (𝒱 : Variants) (d : Dev nD) (i : grid1.Coords) (bd : Option 𝒱.V) (A : Arrs)
variable {α : Type} [Infinite Name] [EC.LandsIn (upEmb : UEmb _ (MT nD τ sig Ix (Elt F) Name U Lvl))]

local notation "𝕄" => MT nD τ sig Ix (Elt F) Name U Lvl

/-- The chunk waited for. -/
theorem drain_wp {Q : α → sProp 𝕄} (S : Slot) (sh : Shr) (NX NG : ℕ) (hS : SlotOk S NX NG) (hNG : 0 < NG) (c : Nat) (hc : c < 64)
    (O : CellTallies nD τ sig Ix) (W : Waits sig Ix) (k : Prog (TpuEff nD τ sig (Elt F) Λ₀ (proc i)) α) :
    (iprop(MayWaits (thr d i) ι O ∗ Busy V EC ι d i A S sh NX NG c hc ∗ Owing ι d i O W) : sProp 𝕄)
      ⊢ iprop((iprop(Full V d i A S sh c hc ∗ Owing ι d i O W) -∗ wp frame (wpE defs 𝒱 (thr d i) bd) Set.univ k Q)
          -∗ wp frame (wpE defs 𝒱 (thr d i) bd) Set.univ (drain1 i A S (drain2 i A S k)) Q) := by
  unfold Busy drain1 drain2
  iintro ⟨#Hmw, ⟨%Bx, %Bg, Hf, Hp, Hb⟩, HO⟩ Hk
  iapply (wp_wait_flight EC 𝒱 (thr d i) bd ι hS.x) $$ [Hf HO]
  · isplitr; · iexact Hmw
    isplitl [Hf]; · iexact Hf
    iexact HO
  iintro ⟨⟨Hx, HBx⟩, Hvi, %W', %hW', HO⟩
  iapply (wp_waitPairFirst EC 𝒱 (thr d i) bd ι hS.ms) $$ [Hp HO]
  · isplitl [Hp]; · iexact Hp
    isplitl [HO]; · iexact HO
    iapply (MayWaits.elim (SemLoc.dma S.gas.sem)) $$ Hmw
  iintro ⟨Hp, HO⟩
  iapply (wp_waitPairSecond EC 𝒱 (thr d i) bd ι hS.rs hNG) $$ [Hp HO]
  · isplitl [Hp]; · iexact Hp
    isplitl [HO]; · iexact HO
    iapply (MayWaits.elim (SemLoc.dma S.gas.sem)) $$ Hmw
  iintro ⟨⟨⟨Hm, Hr⟩, HBg⟩, Hvg, HO⟩
  iapply Hk
  unfold Full
  isplitr [HO]
  · isplitl [Hx]; · iexact Hx
    isplitl [Hm]; · iexact Hm
    isplitl [Hr]; · iexact Hr
    isplitl [Hvi]; · iexact Hvi
    isplitl [Hvg]; · iexact Hvg
    iapply Hb
    isplitl [HBx] <;> iassumption
  iexists _
  isplitr
  swap; · iexact HO
  ipureintro
  intro p hp
  rcases Finset.mem_insert.mp hp with hp | hp; · exact .inr (hp ▸ rfl)
  rcases Finset.mem_insert.mp hp with hp | hp; · exact .inr (hp ▸ rfl)
  exact hW' p hp

/-- The result's buffer waited for, if a store of it is in flight. -/
theorem outWait_wp {Q : α → sProp 𝕄} (yv : Memref sig .scVector .vmem S8x1024 .f32) (hy : yv.IsWhole) (outs : DmaSems sig S_) (NO : ℕ)
    (hNO : (rowsM A.out ![0, 0] inb_S16384x1024_S8x1024_0_0).view.dmaCredit = NO) (c : Nat) (hc : c < 64)
    (cw : BitVec 1) (hcw : cw = 1#1 ↔ 2 ≤ c)
    (O : CellTallies nD τ sig Ix) (W : Waits sig Ix) (k : Prog (TpuEff nD τ sig (Elt F) Λ₀ (proc i)) α) :
    (iprop(MayWaits (thr d i) ι O ∗ OutAt V EC ι d i A yv outs NO c ∗ (bigSep (belowC c) fun j => Done V d i A j.val j.isLt) ∗ Owing ι d i O W) : sProp 𝕄)
      ⊢ iprop((iprop(some_ (thr d i) yv ∗ semVal (thr d i, SemLoc.dma outs.sem) 0 ∗ (bigSep (belowC (c + 1)) fun j => Done V d i A j.val j.isLt) ∗ Owing ι d i O W)
            -∗ wp frame (wpE defs 𝒱 (thr d i) bd) Set.univ k Q)
          -∗ wp frame (wpE defs 𝒱 (thr d i) bd) Set.univ (do
              if h : cw = 1#1 then do
                Prog.lift (.waitDma2 outs.sem yv (rowsM A.out ![0, 0] inb_S16384x1024_S8x1024_0_0) hy.wordExact (View.wordExact_bits rfl))
                pure ⟨⟩
              else do
                pure PUnit.unit
              k) Q) := by
  unfold OutAt
  by_cases h2 : 2 ≤ c
  · have hcw' : cw = 1#1 := hcw.mpr h2
    rw [dif_pos (show 2 ≤ c ∧ c - 2 < 64 from ⟨h2, by omega⟩), dif_pos hcw', belowC_succ c h2 (by omega),
      SparseCore.bigSep_insert' (notMem_belowC c h2 (by omega))]
    iintro ⟨#Hmw, Hf, Hd, HO⟩ Hk
    iapply (wp_wait_flight EC 𝒱 (thr d i) bd ι hNO) $$ [Hf HO]
    · isplitr; · iexact Hmw
      isplitl [Hf]; · iexact Hf
      iexact HO
    iintro ⟨⟨Hc, Hy⟩, Hv, HO⟩
    iapply Hk
    isplitl [Hy]; · iexact Hy
    isplitl [Hv]; · iexact Hv
    isplitl [Hc Hd]; · isplitl [Hc] <;> iassumption
    iexact HO
  · have hcw' : ¬ cw = 1#1 := fun h => h2 (hcw.mp h)
    rw [dif_neg (fun h => h2 h.1), dif_neg hcw', belowC_two c (by omega)]
    iintro ⟨#Hmw, ⟨Hy, Hv⟩, Hd, HO⟩ Hk
    iapply Hk
    isplitl [Hy]; · iexact Hy
    isplitl [Hv]; · iexact Hv
    isplitl [Hd] <;> iassumption

/-- The slot filled with the chunk four on, if there is one. -/
theorem refill_wp {Q : α → sProp 𝕄} (S : Slot) (sh : Shr) (NX NG : ℕ) (hS : SlotOk S NX NG) (hNX : 0 < NX) (c : Nat)
    (cf : BitVec 1) (hcf : cf = 1#1 ↔ c < 64)
    (off : Fin 2 → Nat) (hoff : cf = 1#1 → ∀ a, off a + S8x1024.size a ≤ S16384x1024.size a) (offi : Fin 1 → Nat) (hoffi : cf = 1#1 → ∀ a, offi a + S64.size a ≤ S4096.size a)
    (eo : cf = 1#1 → off = ![8 * (64 * V.w + c), 0]) (ei : cf = 1#1 → offi = ![64 * c]) (k : Prog (TpuEff nD τ sig (Elt F) Λ₀ (proc i)) α) :
    (Idle V d i A S sh : sProp 𝕄)
      ⊢ iprop((SlotAt V EC ι d i A S sh NX NG c -∗ wp frame (wpE defs 𝒱 (thr d i) bd) Set.univ k Q)
          -∗ wp frame (wpE defs 𝒱 (thr d i) bd) Set.univ (do
              if h : cf = 1#1 then do
                start i A S off (hoff h) offi (hoffi h) (pure PUnit.unit)
              else do
                pure PUnit.unit
              k) Q) := by
  unfold SlotAt
  by_cases hc : c < 64
  · have h := hcf.mpr hc
    rw [dif_pos hc, dif_pos h]
    exact start_wp V EC ι 𝒱 d i bd A S sh NX NG hS hNX c hc off (hoff h) offi (hoffi h) (eo h) (ei h) k
  · rw [dif_neg hc, dif_neg (fun h => hc (hcf.mp h))]
    iintro H Hk
    iapply Hk
    iexact H

/-- The step of chunk `c`. -/
theorem step_wp {Q : α → sProp 𝕄} (S : Slot) (sh : Shr) (NX NG NO : ℕ) (hS : SlotOk S NX NG) (hNX : 0 < NX) (hNG : 0 < NG)
    (yv : Memref sig .scVector .vmem S8x1024 .f32) (hy : yv.IsWhole) (outs : DmaSems sig S_)
    (hNO : ∀ off hoff, (rowsM A.out off hoff).view.dmaCredit = NO) (hNO0 : 0 < NO) (c : Nat) (hc : c < 64)
    (cw : BitVec 1) (hcw : cw = 1#1 ↔ 2 ≤ c)
    (offo : Fin 2 → Nat) (hoffo : ∀ a, offo a + S8x1024.size a ≤ S16384x1024.size a) (eoo : offo = ![8 * (64 * V.w + c), 0])
    (cf : BitVec 1) (hcf : cf = 1#1 ↔ c + 4 < 64)
    (off : Fin 2 → Nat) (hoff : cf = 1#1 → ∀ a, off a + S8x1024.size a ≤ S16384x1024.size a) (offi : Fin 1 → Nat) (hoffi : cf = 1#1 → ∀ a, offi a + S64.size a ≤ S4096.size a)
    (eo : cf = 1#1 → off = ![8 * (64 * V.w + (c + 4)), 0]) (ei : cf = 1#1 → offi = ![64 * (c + 4)])
    (O : CellTallies nD τ sig Ix) (W : Waits sig Ix) (k : Prog (TpuEff nD τ sig (Elt F) Λ₀ (proc i)) α) :
    (iprop(MayWaits (thr d i) ι O ∗ SlotAt V EC ι d i A S sh NX NG c ∗ OutAt V EC ι d i A yv outs NO c ∗ OutRest V d i A c ∗ Owing ι d i O W) : sProp 𝕄)
      ⊢ iprop((iprop(SlotAt V EC ι d i A S sh NX NG (c + 4) ∗ OutAt V EC ι d i A yv outs NO (c + 2) ∗ OutRest V d i A (c + 1) ∗ Owing ι d i O W)
            -∗ wp frame (wpE defs 𝒱 (thr d i) bd) Set.univ k Q)
          -∗ wp frame (wpE defs 𝒱 (thr d i) bd) Set.univ
            (drain1 i A S (drain2 i A S (rest i A S yv hy outs cw offo hoffo cf off hoff offi hoffi k))) Q) := by
  subst eoo
  rw [show SlotAt V EC ι d i A S sh NX NG c = Busy V EC ι d i A S sh NX NG c hc from dif_pos hc]
  unfold OutRest
  rw [fromC_succ c hc, SparseCore.bigSep_insert' (notMem_fromC c hc)]
  iintro ⟨#Hmw, Hs, Ho, ⟨⟨Hc, Hrest⟩, Hd⟩, HO⟩ Hk
  iapply (drain_wp V EC ι 𝒱 d i bd A S sh NX NG hS hNG c hc O W) $$ [Hs HO]
  · isplitr; · iexact Hmw
    isplitl [Hs] <;> iassumption
  iintro ⟨Hs, HO⟩
  unfold rest
  iapply (outWait_wp V EC ι 𝒱 d i bd A yv hy outs NO (hNO _ _) c hc cw hcw O W) $$ [Ho Hd HO]
  · isplitr; · iexact Hmw
    isplitl [Ho]; · iexact Ho
    isplitl [Hd] <;> iassumption
  iintro ⟨⟨%Y, Hy⟩, Hvo, Hd, HO⟩
  unfold Full
  icases Hs with ⟨Hx, Hm, Hr, Hvi, Hvg, Hres⟩
  iapply (rows_wp 𝒱 d i bd S.xv S.mv S.rv yv (V.xc c hc) Y (V.tc c hc) (V.gc V.M c hc) (V.gc V.R c hc) (fun a b => rfl)) $$ [Hx Hm Hr Hy]
  · isplitl [Hx]; · iexact Hx
    isplitl [Hm]; · iexact Hm
    isplitl [Hr]; · iexact Hr
    iexact Hy
  iintro ⟨Hx, Hm, Hr, Hy⟩
  iapply (wp_copy_holds EC 𝒱 (thr d i) bd ι NO (hNO _ _) hNO0) $$ [Hy Hc Hvo]
  · isplitl [Hy]; · iexact Hy
    isplitl [Hc]; · iexact Hc
    iexact Hvo
  iintro Hf
  iapply (refill_wp V EC ι 𝒱 d i bd A S sh NX NG hS hNX (c + 4) cf hcf off hoff offi hoffi eo ei) $$ [Hx Hm Hr Hvi Hvg Hres]
  · unfold Idle
    isplitl [Hx]; · iexists _; iexact Hx
    isplitl [Hm]; · iexists _; iexact Hm
    isplitl [Hr]; · iexists _; iexact Hr
    isplitl [Hvi]; · iexact Hvi
    isplitl [Hvg] <;> iassumption
  iintro Hs
  iapply Hk
  isplitl [Hs]; · iexact Hs
  isplitl [Hf]
  · unfold OutAt
    rw [dif_pos (show 2 ≤ c + 2 ∧ c + 2 - 2 < 64 from ⟨by omega, by omega⟩)]
    iapply (Flight_mono EC (thr d i) (sep_mono .rfl (exists_intro (Φ := fun W => holds (thr d i) yv fullShare W) (V.tc c hc))))
    iexact Hf
  isplitl [Hrest Hd]; · isplitl [Hrest] <;> iassumption
  iexact HO

end Cert.Proof
-- ==== Proof.Trip.lean ====
/-
  The task of a tile: sixteen trips of four steps between the list's copy and the last two waits.
-/
module

public import proofs.«01_k».proof.Proof.Step

@[expose] public section

noncomputable section

namespace Cert.Proof

open Cert.KernelIdeal Idealize.ShloMosaic
open Cert.KernelIdeal.Facts₀ Cert.KernelIdeal.Facts
open Idealize.SL.BI (sProp Storable bigSep bigSep_insert)
open scoped Idealize.SL.BI
open Idealize.SL.BI.BIBase Idealize.SL.BI.Laws Idealize.SL.Sem Idealize.SL.ProofMode
open Idealize.SL.RA
open Idealize.ShloMosaic.ValueIdx
open Idealize.ShloMosaic.Transfers (Flight Flight_mono MayWaits)

variable {F : FTy → Type} [FloatOps F] [Cert.KernelIdeal.Facts] (V : Vals F)
variable {Ix : Type} [DecidableEq Ix] {Name : Type} [DecidableEq Name] {U : Type} [URA U] {Lvl : Type} [Preorder Lvl]
variable (EC : UEmb Counters (MT nD τ sig Ix (Elt F) Name U Lvl)) (ι : Ix)
variable {defs : Defs nD τ sig (Elt F) Λ₀} (𝒱 : Variants) (d : Dev nD) (i : grid1.Coords) (bd : Option 𝒱.V) (A : Arrs)
variable {α : Type} [Infinite Name] [EC.LandsIn (upEmb : UEmb _ (MT nD τ sig Ix (Elt F) Name U Lvl))]

local notation "𝕄" => MT nD τ sig Ix (Elt F) Name U Lvl

/-! ## Where the steps read and write -/

/-- The task's number. -/
def wid (i : grid1.Coords) : Nat := 2 * (i 1).val + (i 0).val

theorem wid_lt : ∀ i : grid1.Coords, wid i < 32 := by decide +kernel
theorem trips1 : k1_t1_loop.trips = 16 := by decide +kernel

theorem off1_val : ∀ i : grid1.Coords, k1_off1 i = ![4096 * wid i] := by decide +kernel
theorem off2_val : ∀ (i : grid1.Coords) (r : Fin 4), k1_off2 i (BitVec.ofNat 32 (8 * r.val)) = ![8 * (64 * wid i + r.val), 0] := by decide +kernel
theorem off75_val : ∀ (i : grid1.Coords) (t : Fin k1_t1_loop.trips) (r : Fin 4),
    k1_off75 i t (BitVec.ofNat 32 r.val) = ![8 * (64 * wid i + (4 * t.val + r.val)), 0] := by decide +kernel
theorem off76_val : ∀ (i : grid1.Coords) (t : Fin k1_t1_loop.trips), k1_cond2 t = 1#1 → k1_off76 i t = ![8 * (64 * wid i + (4 * t.val + 4)), 0] := by decide +kernel
theorem off150_val : ∀ (i : grid1.Coords) (t : Fin k1_t1_loop.trips), k1_cond4 t = 1#1 → k1_off150 i t = ![8 * (64 * wid i + (4 * t.val + 1 + 4)), 0] := by decide +kernel
theorem off224_val : ∀ (i : grid1.Coords) (t : Fin k1_t1_loop.trips), k1_cond6 t = 1#1 → k1_off224 i t = ![8 * (64 * wid i + (4 * t.val + 2 + 4)), 0] := by decide +kernel
theorem off298_val : ∀ (i : grid1.Coords) (t : Fin k1_t1_loop.trips), k1_cond8 t = 1#1 → k1_off298 i t = ![8 * (64 * wid i + (4 * t.val + 3 + 4)), 0] := by decide +kernel
theorem off77_val : ∀ t : Fin k1_t1_loop.trips, k1_cond2 t = 1#1 → k1_off77 t = ![64 * (4 * t.val + 4)] := by decide +kernel
theorem off151_val : ∀ t : Fin k1_t1_loop.trips, k1_cond4 t = 1#1 → k1_off151 t = ![64 * (4 * t.val + 1 + 4)] := by decide +kernel
theorem off225_val : ∀ t : Fin k1_t1_loop.trips, k1_cond6 t = 1#1 → k1_off225 t = ![64 * (4 * t.val + 2 + 4)] := by decide +kernel
theorem off299_val : ∀ t : Fin k1_t1_loop.trips, k1_cond8 t = 1#1 → k1_off299 t = ![64 * (4 * t.val + 3 + 4)] := by decide +kernel
theorem cond2_val : ∀ t : Fin k1_t1_loop.trips, k1_cond2 t = 1#1 ↔ 4 * t.val + 4 < 64 := by decide +kernel
theorem cond4_val : ∀ t : Fin k1_t1_loop.trips, k1_cond4 t = 1#1 ↔ 4 * t.val + 1 + 4 < 64 := by decide +kernel
theorem cond6_val : ∀ t : Fin k1_t1_loop.trips, k1_cond6 t = 1#1 ↔ 4 * t.val + 2 + 4 < 64 := by decide +kernel
theorem cond8_val : ∀ t : Fin k1_t1_loop.trips, k1_cond8 t = 1#1 ↔ 4 * t.val + 3 + 4 < 64 := by decide +kernel
theorem cw_val : ∀ (t : Fin k1_t1_loop.trips) (r : Fin 4), cw t (BitVec.ofNat 32 r.val) = 1#1 ↔ 2 ≤ 4 * t.val + r.val := by decide +kernel

/-! ## The trips -/

variable (S0 S1 S2 S3 : Slot) (h0 h1 h2 h3 : Shr) (NX NG NO : ℕ)
variable (y0 y1 : Memref sig .scVector .vmem S8x1024 .f32) (hy0 : y0.IsWhole) (hy1 : y1.IsWhole) (o0 o1 : DmaSems sig S_)

/-- The ring before trip `k`. -/
def Ring (O : CellTallies nD τ sig Ix) (W : Waits sig Ix) (k : Nat) : sProp 𝕄 :=
  iprop(SlotAt V EC ι d i A S0 h0 NX NG (4 * k) ∗ SlotAt V EC ι d i A S1 h1 NX NG (4 * k + 1)
    ∗ SlotAt V EC ι d i A S2 h2 NX NG (4 * k + 2) ∗ SlotAt V EC ι d i A S3 h3 NX NG (4 * k + 3)
    ∗ OutAt V EC ι d i A y0 o0 NO (4 * k) ∗ OutAt V EC ι d i A y1 o1 NO (4 * k + 1) ∗ OutRest V d i A (4 * k) ∗ Owing ι d i O W)

/-- A trip takes the ring on by four chunks. -/
theorem trip_wp (hS0 : SlotOk S0 NX NG) (hS1 : SlotOk S1 NX NG) (hS2 : SlotOk S2 NX NG) (hS3 : SlotOk S3 NX NG) (hNX : 0 < NX) (hNG : 0 < NG)
    (hNO : ∀ off hoff, (rowsM A.out off hoff).view.dmaCredit = NO) (hNO0 : 0 < NO) (hV : V.w = wid i)
    (O : CellTallies nD τ sig Ix) (W : Waits sig Ix) (t : Fin k1_t1_loop.trips) :
    (iprop(MayWaits (thr d i) ι O ∗ Ring V EC ι d i A S0 S1 S2 S3 h0 h1 h2 h3 NX NG NO y0 y1 o0 o1 O W t.val) : sProp 𝕄)
      ⊢ wp frame (wpE defs 𝒱 (thr d i) bd) Set.univ (trip i A S0 S1 S2 S3 y0 y1 hy0 hy1 o0 o1 t)
          fun _ => iprop(MayWaits (thr d i) ι O ∗ Ring V EC ι d i A S0 S1 S2 S3 h0 h1 h2 h3 NX NG NO y0 y1 o0 o1 O W (t.val + 1)) := by
  have ht : t.val < 16 := trips1 ▸ t.isLt
  unfold Ring trip
  iintro ⟨#Hmw, H0, H1, H2, H3, Ho0, Ho1, HR, HO⟩
  iapply (step_wp V EC ι 𝒱 d i bd A S0 h0 NX NG NO hS0 hNX hNG y0 hy0 o0 hNO hNO0 (4 * t.val) (by omega) _ (cw_val t 0) _ _ (hV ▸ off75_val i t 0)
    _ (cond2_val t) _ _ _ _ (fun h => hV ▸ off76_val i t h) (off77_val t) O W) $$ [H0 Ho0 HR HO]
  · isplitr; · iexact Hmw
    isplitl [H0]; · iexact H0
    isplitl [Ho0]; · iexact Ho0
    isplitl [HR] <;> iassumption
  iintro ⟨H0, Ho0, HR, HO⟩
  iapply (step_wp V EC ι 𝒱 d i bd A S1 h1 NX NG NO hS1 hNX hNG y1 hy1 o1 hNO hNO0 (4 * t.val + 1) (by omega) _ (cw_val t 1) _ _ (hV ▸ off75_val i t 1)
    _ (cond4_val t) _ _ _ _ (fun h => hV ▸ off150_val i t h) (off151_val t) O W) $$ [H1 Ho1 HR HO]
  · isplitr; · iexact Hmw
    isplitl [H1]; · iexact H1
    isplitl [Ho1]; · iexact Ho1
    isplitl [HR] <;> iassumption
  iintro ⟨H1, Ho1, HR, HO⟩
  iapply (step_wp V EC ι 𝒱 d i bd A S2 h2 NX NG NO hS2 hNX hNG y0 hy0 o0 hNO hNO0 (4 * t.val + 2) (by omega) _ (cw_val t 2) _ _ (hV ▸ off75_val i t 2)
    _ (cond6_val t) _ _ _ _ (fun h => hV ▸ off224_val i t h) (off225_val t) O W) $$ [H2 Ho0 HR HO]
  · isplitr; · iexact Hmw
    isplitl [H2]; · iexact H2
    isplitl [Ho0]; · iexact Ho0
    isplitl [HR] <;> iassumption
  iintro ⟨H2, Ho0, HR, HO⟩
  iapply (step_wp V EC ι 𝒱 d i bd A S3 h3 NX NG NO hS3 hNX hNG y1 hy1 o1 hNO hNO0 (4 * t.val + 3) (by omega) _ (cw_val t 3) _ _ (hV ▸ off75_val i t 3)
    _ (cond8_val t) _ _ _ _ (fun h => hV ▸ off298_val i t h) (off299_val t) O W) $$ [H3 Ho1 HR HO]
  · isplitr; · iexact Hmw
    isplitl [H3]; · iexact H3
    isplitl [Ho1]; · iexact Ho1
    isplitl [HR] <;> iassumption
  iintro ⟨H3, Ho1, HR, HO⟩
  rw [wp_pure]
  imodintro
  isplitr; · iexact Hmw
  isplitl [H0]; · iexact H0
  isplitl [H1]; · iexact H1
  isplitl [H2]; · iexact H2
  isplitl [H3]; · iexact H3
  isplitl [Ho0]; · iexact Ho0
  isplitl [Ho1]; · iexact Ho1
  isplitl [HR] <;> iassumption

end Cert.Proof
-- ==== Proof.Task.lean ====
/-
  The task of a tile: the list's copy, the ring's filling, the trips, and the last two waits.
-/
module

public import proofs.«01_k».proof.Proof.Trip

@[expose] public section

noncomputable section

namespace Cert.Proof

open Cert.KernelIdeal Idealize.ShloMosaic
open Cert.KernelIdeal.Facts₀ Cert.KernelIdeal.Facts
open Idealize.SL.BI (sProp Storable bigSep bigSep_insert bigSep_empty)
open scoped Idealize.SL.BI
open Idealize.SL.BI.BIBase Idealize.SL.BI.Laws Idealize.SL.Sem Idealize.SL.ProofMode
open Idealize.SL.RA
open Idealize.ShloMosaic.ValueIdx
open Idealize.ShloMosaic.Transfers (Flight Flight_mono MayWaits)

variable {F : FTy → Type} [FloatOps F] [Cert.KernelIdeal.Facts] (V : Vals F)
variable {Ix : Type} [DecidableEq Ix] {Name : Type} [DecidableEq Name] {U : Type} [URA U] {Lvl : Type} [Preorder Lvl]
variable (EC : UEmb Counters (MT nD τ sig Ix (Elt F) Name U Lvl)) (ι : Ix)
variable {defs : Defs nD τ sig (Elt F) Λ₀} (𝒱 : Variants) (d : Dev nD) (i : grid1.Coords) (bd : Option 𝒱.V) (A : Arrs)
variable {α : Type} [Infinite Name] [EC.LandsIn (upEmb : UEmb _ (MT nD τ sig Ix (Elt F) Name U Lvl))]

local notation "𝕄" => MT nD τ sig Ix (Elt F) Name U Lvl

/-- What a slot has of its own, with nothing in flight. -/
def Spare (S : Slot) : sProp 𝕄 :=
  iprop(some_ (thr d i) S.xv ∗ some_ (thr d i) S.mv ∗ some_ (thr d i) S.rv
    ∗ semVal (thr d i, SemLoc.dma S.ins.sem) 0 ∗ semVal (thr d i, SemLoc.dma S.gas.sem) 0)

theorem Idle_of (S : Slot) (sh : Shr) : (iprop(Spare d i S ∗ Res V d i A sh) : sProp 𝕄) ⊢ Idle V d i A S sh := by
  unfold Spare Idle
  iintro ⟨⟨Hx, Hm, Hr, Hi, Hg⟩, HR⟩
  isplitl [Hx]; · iexact Hx
  isplitl [Hm]; · iexact Hm
  isplitl [Hr]; · iexact Hr
  isplitl [Hi]; · iexact Hi
  isplitl [Hg] <;> iassumption

theorem of_Idle (S : Slot) (sh : Shr) : (Idle V d i A S sh : sProp 𝕄) ⊢ iprop(Spare d i S ∗ Res V d i A sh) := by
  unfold Spare Idle
  iintro ⟨Hx, Hm, Hr, Hi, Hg, HR⟩
  isplitr [HR]
  · isplitl [Hx]; · iexact Hx
    isplitl [Hm]; · iexact Hm
    isplitl [Hr]; · iexact Hr
    isplitl [Hi] <;> iassumption
  iexact HR

/-- The shares the four slots read with, out of the task's own. -/
def shr (qx qm qr : PosShare TreeShare) : Fin 4 → Shr
  | 0 => ⟨qx.left.left, qm.left.left, qr.left.left, fullShare.left.left.left, fullShare.right.left.left⟩
  | 1 => ⟨qx.left.right, qm.left.right, qr.left.right, fullShare.left.left.right, fullShare.right.left.right⟩
  | 2 => ⟨qx.right.left, qm.right.left, qr.right.left, fullShare.left.right.left, fullShare.right.right.left⟩
  | 3 => ⟨qx.right.right, qm.right.right, qr.right.right, fullShare.left.right.right, fullShare.right.right.right⟩

/-- The arrays the task reads, with the task's shares. -/
def Reads (qx qm qr : PosShare TreeShare) : sProp 𝕄 :=
  iprop(holds (thr d i) A.x qx V.X ∗ holds (thr d i) A.tm qm V.M ∗ holds (thr d i) A.tr qr V.R)

theorem deal (qx qm qr : PosShare TreeShare) :
    (iprop(Reads V d i A qx qm qr ∗ holds (thr d i) A.idx fullShare V.L) : sProp 𝕄)
      ⊢ iprop(Res V d i A (shr qx qm qr 0) ∗ Res V d i A (shr qx qm qr 1) ∗ Res V d i A (shr qx qm qr 2) ∗ Res V d i A (shr qx qm qr 3)) := by
  unfold Reads Res
  iintro ⟨⟨HX, HM, HR⟩, HL⟩
  ihave HX := (holds_quarters (thr d i) A.x qx V.X).1 $$ HX
  icases HX with ⟨⟨X0, X1⟩, X2, X3⟩
  ihave HM := (holds_quarters (thr d i) A.tm qm V.M).1 $$ HM
  icases HM with ⟨⟨M0, M1⟩, M2, M3⟩
  ihave HR := (holds_quarters (thr d i) A.tr qr V.R).1 $$ HR
  icases HR with ⟨⟨R0, R1⟩, R2, R3⟩
  ihave HL := (holds_halves (thr d i) A.idx fullShare V.L).1 $$ HL
  icases HL with ⟨HI, HJ⟩
  ihave HI := (holds_quarters (thr d i) A.idx fullShare.left V.L).1 $$ HI
  icases HI with ⟨⟨I0, I1⟩, I2, I3⟩
  ihave HJ := (holds_quarters (thr d i) A.idx fullShare.right V.L).1 $$ HJ
  icases HJ with ⟨⟨J0, J1⟩, J2, J3⟩
  isplitl [X0 M0 R0 I0 J0]
  · isplitl [X0]; · iexact X0
    isplitl [M0]; · iexact M0
    isplitl [R0]; · iexact R0
    isplitl [I0]; · iexact I0
    iexact J0
  isplitl [X1 M1 R1 I1 J1]
  · isplitl [X1]; · iexact X1
    isplitl [M1]; · iexact M1
    isplitl [R1]; · iexact R1
    isplitl [I1]; · iexact I1
    iexact J1
  isplitl [X2 M2 R2 I2 J2]
  · isplitl [X2]; · iexact X2
    isplitl [M2]; · iexact M2
    isplitl [R2]; · iexact R2
    isplitl [I2]; · iexact I2
    iexact J2
  isplitl [X3]; · iexact X3
  isplitl [M3]; · iexact M3
  isplitl [R3]; · iexact R3
  isplitl [I3]; · iexact I3
  iexact J3

theorem gather_back (qx qm qr : PosShare TreeShare) :
    (iprop(Res V d i A (shr qx qm qr 0) ∗ Res V d i A (shr qx qm qr 1) ∗ Res V d i A (shr qx qm qr 2) ∗ Res V d i A (shr qx qm qr 3)) : sProp 𝕄)
      ⊢ iprop(Reads V d i A qx qm qr ∗ holds (thr d i) A.idx fullShare V.L) := by
  unfold Reads Res
  iintro ⟨⟨X0, M0, R0, I0, J0⟩, ⟨X1, M1, R1, I1, J1⟩, ⟨X2, M2, R2, I2, J2⟩, X3, M3, R3, I3, J3⟩
  isplitr [I0 I1 I2 I3 J0 J1 J2 J3]
  · isplitl [X0 X1 X2 X3]
    · iapply (holds_quarters (thr d i) A.x qx V.X).2
      isplitl [X0 X1]; · isplitl [X0]; · iexact X0
                         iexact X1
      isplitl [X2]; · iexact X2
      iexact X3
    isplitl [M0 M1 M2 M3]
    · iapply (holds_quarters (thr d i) A.tm qm V.M).2
      isplitl [M0 M1]; · isplitl [M0]; · iexact M0
                         iexact M1
      isplitl [M2]; · iexact M2
      iexact M3
    iapply (holds_quarters (thr d i) A.tr qr V.R).2
    isplitl [R0 R1]; · isplitl [R0]; · iexact R0
                       iexact R1
    isplitl [R2]; · iexact R2
    iexact R3
  iapply (holds_halves (thr d i) A.idx fullShare V.L).2
  isplitl [I0 I1 I2 I3]
  · iapply (holds_quarters (thr d i) A.idx fullShare.left V.L).2
    isplitl [I0 I1]; · isplitl [I0]; · iexact I0
                       iexact I1
    isplitl [I2]; · iexact I2
    iexact I3
  iapply (holds_quarters (thr d i) A.idx fullShare.right V.L).2
  isplitl [J0 J1]; · isplitl [J0]; · iexact J0
                     iexact J1
  isplitl [J2]; · iexact J2
  iexact J3

theorem fromC_zero : fromC 0 = Finset.univ := by
  ext j; simp [fromC]
theorem fromC_end : fromC 64 = ∅ := by
  ext j; simp [fromC]
theorem belowC_zero : belowC 0 = ∅ := by
  ext j; simp [belowC]
theorem belowC_end : (Finset.univ : Finset (Fin 64)) = insert ⟨63, by omega⟩ (insert ⟨62, by omega⟩ (belowC 64)) := by
  ext j; have := j.isLt
  simp only [belowC, Finset.mem_filter, Finset.mem_univ, true_and, Finset.mem_insert, Fin.ext_iff, true_iff]; omega
theorem notMem_end : (⟨63, by omega⟩ : Fin 64) ∉ insert (⟨62, by omega⟩ : Fin 64) (belowC 64) := by
  simp [belowC]
theorem notMem_end' : (⟨62, by omega⟩ : Fin 64) ∉ belowC 64 := by
  simp [belowC]

variable (S0 S1 S2 S3 : Slot) (NX NG NO NL : ℕ)
variable (y0 y1 : Memref sig .scVector .vmem S8x1024 .f32) (hy0 : y0.IsWhole) (hy1 : y1.IsWhole) (o0 o1 sc : DmaSems sig S_)
variable (lst : Memref sig .scVector .hbm S131072 .i32) (hidx : A.idx.IsWhole)

/-- The tile's part of the list. -/
abbrev part : Memref sig .scVector .hbm S4096 .i32 := lst.slice (Rect.unit (s := S131072) (k1_off1 i) S4096.size (k1_off1_inb i)) (fun _ => rfl)

/-- The tile's own buffers and semaphores. -/
def Own : sProp 𝕄 :=
  iprop(Spare d i S0 ∗ Spare d i S1 ∗ Spare d i S2 ∗ Spare d i S3 ∗ some_ (thr d i) y0 ∗ some_ (thr d i) y1 ∗ some_ (thr d i) A.idx
    ∗ semVal (thr d i, SemLoc.dma o0.sem) 0 ∗ semVal (thr d i, SemLoc.dma o1.sem) 0 ∗ semVal (thr d i, SemLoc.dma sc.sem) 0)

include EC in
/-- The task: every chunk of its rows stored, and the rest as it was. -/
theorem task_wp (hS0 : SlotOk S0 NX NG) (hS1 : SlotOk S1 NX NG) (hS2 : SlotOk S2 NX NG) (hS3 : SlotOk S3 NX NG) (hNX : 0 < NX) (hNG : 0 < NG)
    (hNO : ∀ off hoff, (rowsM A.out off hoff).view.dmaCredit = NO) (hNO0 : 0 < NO) (hNL : A.idx.view.dmaCredit = NL) (hNL0 : 0 < NL) (hV : V.w = wid i)
    (qx qm qr ql : PosShare TreeShare) (O : CellTallies nD τ sig Ix) (W : Waits sig Ix) :
    (iprop(MayWaits (thr d i) ι O ∗ Reads V d i A qx qm qr ∗ holds (thr d i) (part i lst) ql V.L ∗ Own d i A S0 S1 S2 S3 y0 y1 o0 o1 sc
        ∗ (bigSep Finset.univ fun j : Fin 64 => some_ (thr d i) (outAt A V.w j.val V.hw j.isLt)) ∗ Owing ι d i O W) : sProp 𝕄)
      ⊢ wp frame (wpE defs 𝒱 (thr d i) bd) Set.univ (task i A lst hidx S0 S1 S2 S3 y0 y1 hy0 hy1 o0 o1 sc)
          fun _ => iprop(Reads V d i A qx qm qr ∗ holds (thr d i) (part i lst) ql V.L ∗ Own d i A S0 S1 S2 S3 y0 y1 o0 o1 sc
            ∗ (bigSep Finset.univ fun j : Fin 64 => Done V d i A j.val j.isLt) ∗ Owing ι d i O W) := by
  unfold Own task
  iintro ⟨#Hmw, HRd, Hlst, ⟨H0, H1, H2, H3, Hy0, Hy1, Hidx, Ho0, Ho1, Hsc⟩, Hout, HO⟩
  iapply (wp_copy_holds EC 𝒱 (thr d i) bd ι NL hNL hNL0) $$ [Hlst Hidx Hsc]
  · isplitl [Hlst]; · iexact Hlst
    isplitl [Hidx]; · iexact Hidx
    iexact Hsc
  iintro Hf
  iapply (wp_wait_flight EC 𝒱 (thr d i) bd ι hNL) $$ [Hf HO]
  · isplitr; · iexact Hmw
    isplitl [Hf]; · iexact Hf
    iexact HO
  iintro ⟨⟨Hidx, Hlst⟩, Hsc, HO⟩
  ihave HRs := (deal V d i A qx qm qr) $$ [HRd Hidx]
  · isplitl [HRd] <;> iassumption
  icases HRs with ⟨R0, R1, R2, R3⟩
  ihave H0 := (Idle_of V d i A S0 (shr qx qm qr 0)) $$ [H0 R0]
  · isplitl [H0] <;> iassumption
  ihave H1 := (Idle_of V d i A S1 (shr qx qm qr 1)) $$ [H1 R1]
  · isplitl [H1] <;> iassumption
  ihave H2 := (Idle_of V d i A S2 (shr qx qm qr 2)) $$ [H2 R2]
  · isplitl [H2] <;> iassumption
  ihave H3 := (Idle_of V d i A S3 (shr qx qm qr 3)) $$ [H3 R3]
  · isplitl [H3] <;> iassumption
  iapply (start_wp V EC ι 𝒱 d i bd A S0 (shr qx qm qr 0) NX NG hS0 hNX 0 (by omega) _ _ _ _ (hV ▸ off2_val i 0) rfl) $$ H0
  iintro H0
  iapply (start_wp V EC ι 𝒱 d i bd A S1 (shr qx qm qr 1) NX NG hS1 hNX 1 (by omega) _ _ _ _ (hV ▸ off2_val i 1) rfl) $$ H1
  iintro H1
  iapply (start_wp V EC ι 𝒱 d i bd A S2 (shr qx qm qr 2) NX NG hS2 hNX 2 (by omega) _ _ _ _ (hV ▸ off2_val i 2) rfl) $$ H2
  iintro H2
  iapply (start_wp V EC ι 𝒱 d i bd A S3 (shr qx qm qr 3) NX NG hS3 hNX 3 (by omega) _ _ _ _ (hV ▸ off2_val i 3) rfl) $$ H3
  iintro H3
  iapply (Scf.wp_for_bind frame (wpE defs 𝒱 (thr d i) bd) Set.univ _ _ _ k1_t1_ok ⟨⟩ _
    (fun k _ => iprop(MayWaits (thr d i) ι O
      ∗ Ring V EC ι d i A S0 S1 S2 S3 (shr qx qm qr 0) (shr qx qm qr 1) (shr qx qm qr 2) (shr qx qm qr 3) NX NG NO y0 y1 o0 o1 O W k)) ?_) $$ [H0 H1 H2 H3 Hy0 Hy1 Ho0 Ho1 Hout HO]
  · intro t _
    exact trip_wp V EC ι 𝒱 d i bd A S0 S1 S2 S3 _ _ _ _ NX NG NO y0 y1 hy0 hy1 o0 o1 hS0 hS1 hS2 hS3 hNX hNG hNO hNO0 hV O W t
  · isplitr; · iexact Hmw
    unfold Ring SlotAt OutAt OutRest
    rw [dif_pos (show 4 * 0 < 64 by omega), dif_pos (show 4 * 0 + 1 < 64 by omega), dif_pos (show 4 * 0 + 2 < 64 by omega), dif_pos (show 4 * 0 + 3 < 64 by omega),
      dif_neg (show ¬(2 ≤ 4 * 0 ∧ 4 * 0 - 2 < 64) by omega), dif_neg (show ¬(2 ≤ 4 * 0 + 1 ∧ 4 * 0 + 1 - 2 < 64) by omega)]
    isplitl [H0]; · iexact H0
    isplitl [H1]; · iexact H1
    isplitl [H2]; · iexact H2
    isplitl [H3]; · iexact H3
    isplitl [Hy0 Ho0]; · isplitl [Hy0] <;> iassumption
    isplitl [Hy1 Ho1]; · isplitl [Hy1] <;> iassumption
    isplitl [Hout]
    · rw [show 4 * 0 = 0 from rfl, fromC_zero, belowC_zero, bigSep_empty]
      isplitl [Hout]; · iexact Hout
      iempintro
    iexact HO
  iintro %acc ⟨-, H⟩
  rw [show Scf.trips k1_t1_loop.lb k1_t1_loop.ub k1_t1_loop.st = 16 from trips1]
  unfold Ring SlotAt OutAt OutRest
  rw [dif_neg (show ¬4 * 16 < 64 by omega), dif_neg (show ¬4 * 16 + 1 < 64 by omega), dif_neg (show ¬4 * 16 + 2 < 64 by omega), dif_neg (show ¬4 * 16 + 3 < 64 by omega),
    dif_pos (show (2 ≤ 4 * 16 ∧ 4 * 16 - 2 < 64) by omega), dif_pos (show (2 ≤ 4 * 16 + 1 ∧ 4 * 16 + 1 - 2 < 64) by omega)]
  icases H with ⟨H0, H1, H2, H3, Ho0, Ho1, ⟨-, Hd⟩, HO⟩
  iapply (wp_wait_flight EC 𝒱 (thr d i) bd ι (hNO _ _)) $$ [Ho0 HO]
  · isplitr; · iexact Hmw
    isplitl [Ho0]; · iexact Ho0
    iexact HO
  iintro ⟨⟨Hd0, Hy0⟩, Ho0, HO⟩
  iapply (wp_wait_flight EC 𝒱 (thr d i) bd ι (hNO _ _)) $$ [Ho1 HO]
  · isplitr; · iexact Hmw
    isplitl [Ho1]; · iexact Ho1
    iexact HO
  iintro ⟨⟨Hd1, Hy1⟩, Ho1, HO⟩
  simp only [Prog.bind]
  rw [wp_pure]
  imodintro
  ihave H0 := (of_Idle V d i A S0 (shr qx qm qr 0)) $$ H0
  icases H0 with ⟨H0, R0⟩
  ihave H1 := (of_Idle V d i A S1 (shr qx qm qr 1)) $$ H1
  icases H1 with ⟨H1, R1⟩
  ihave H2 := (of_Idle V d i A S2 (shr qx qm qr 2)) $$ H2
  icases H2 with ⟨H2, R2⟩
  ihave H3 := (of_Idle V d i A S3 (shr qx qm qr 3)) $$ H3
  icases H3 with ⟨H3, R3⟩
  ihave HR := (gather_back V d i A qx qm qr) $$ [R0 R1 R2 R3]
  · isplitl [R0]; · iexact R0
    isplitl [R1]; · iexact R1
    isplitl [R2] <;> iassumption
  icases HR with ⟨HR, Hidx⟩
  isplitl [HR]; · iexact HR
  isplitl [Hlst]; · iexact Hlst
  isplitr [Hd Hd0 Hd1 HO]
  · isplitl [H0]; · iexact H0
    isplitl [H1]; · iexact H1
    isplitl [H2]; · iexact H2
    isplitl [H3]; · iexact H3
    isplitl [Hy0]; · iexact Hy0
    isplitl [Hy1]; · iexact Hy1
    isplitl [Hidx]; · iexists _; iexact Hidx
    isplitl [Ho0]; · iexact Ho0
    isplitl [Ho1] <;> iassumption
  isplitr [HO]
  · rw [belowC_end, SparseCore.bigSep_insert' notMem_end, SparseCore.bigSep_insert' notMem_end']
    isplitl [Hd1]; · iexact Hd1
    isplitl [Hd0]; · iexact Hd0
    iexact Hd
  iexact HO

end Cert.Proof
-- ==== Proof.Setup.lean ====
/-
  The program as the launch sees it: its ghost state, what each call to a tile carries, and how the arrays are
  dealt to the thirty-two tiles and gathered again.
-/
module

public import proofs.«01_k».proof.Proof.Task
public import proofs.«01_k».proof.Proof.Gen.KernelIdeal
public import Idealize.ShloMosaic.Lib.SparseCore.Quiescent
public import Idealize.ShloMosaic.Lib.ShareLeaves
public import Idealize.ShloMosaic.Lib.Pipeline.Kit

@[expose] public section

noncomputable section

namespace Cert.Proof

open Cert.KernelIdeal Cert.KernelIdeal.Gen Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.ShareLeaves (leaf pointsTo_leaves)

variable {F : FTy → Type}

/-! ## The program and its ghost state -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the recip call's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

instance EP_landsIn : (EP : Emb UP 𝕄).LandsIn (upEmb : UEmb _ 𝕄) := by unfold EP embR; infer_instance

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the SparseCores read and write -/

/-- What the tiles read: `x`, the list of table rows, and the two tables. -/
structure Inp (F : FTy → Type) where
  /-- `x`. -/
  X : S16384x1024.Idx → Elt F .f32
  /-- The list of table rows, eight for each row of `x`. -/
  L : S131072.Idx → Elt F .i32
  /-- The means. -/
  M : S512x128.Idx → Elt F .f32
  /-- The reciprocals. -/
  R : S512x128.Idx → Elt F .f32
  hL : ∀ j, (L j).toNat < 512

/-- The place of the list behind element `(r, f)` of `x`. -/
abbrev wordAt (p : S16384x1024.Idx) : S131072.Idx :=
  ix1 ⟨8 * (p 0).val + (p 1).val / 128, by have h0 : (p 0).val < 16384 := (p 0).isLt; have h1 : (p 1).val < 1024 := (p 1).isLt; omega⟩

/-- The place of a table behind element `(r, f)` of `x`. -/
abbrev Inp.cell (I : Inp F) (p : S16384x1024.Idx) : S512x128.Idx :=
  ix2 ⟨(I.L (wordAt p)).toNat, I.hL _⟩ ⟨(p 1).val % 128, Nat.mod_lt _ (by omega)⟩

/-- What the tiles write. -/
def Inp.out (I : Inp F) : S16384x1024.Idx → Elt F .f32 := fun p => norm (I.X p) (I.M (I.cell p)) (I.R (I.cell p))

/-- The part of the list of task `w`. -/
def Inp.part (I : Inp F) (w : Fin 32) : S4096.Idx → Elt F .i32 :=
  fun j => I.L (ix1 ⟨4096 * w.val + (j 0).val, by have h0 : (j 0).val < 4096 := (j 0).isLt; omega⟩)

/-- The values of task `w`. -/
def Inp.vals (I : Inp F) (w : Fin 32) : Vals F := ⟨I.X, I.M, I.R, I.part w, fun j => I.hL _, w.val, w.isLt⟩

abbrev xLoc (d : Dev nD) : Loc nD τ sig := (SparseCore.T d).loc main_arg0
abbrev lLoc (d : Dev nD) : Loc nD τ sig := (SparseCore.T d).loc main_v9
abbrev mLoc (d : Dev nD) : Loc nD τ sig := (SparseCore.T d).loc main_v10
abbrev rLoc (d : Dev nD) : Loc nD τ sig := (SparseCore.T d).loc main_v11
abbrev oLoc (d : Dev nD) : Loc nD τ sig := (SparseCore.T d).loc main_v12

theorem ldiv : 32 ∣ S131072.size 0 := ⟨4096, rfl⟩
theorem odiv : 2048 ∣ S16384x1024.size 0 := ⟨8, rfl⟩
abbrev lSet (w : Fin 32) : Finset S131072.Idx := (Rect.part (s := S131072) (a₀ := 0) ldiv w).set
/-- The number of chunk `j` of task `w`. -/
abbrev chunk (w : Fin 32) (j : Fin 64) : Fin 2048 := ⟨64 * w.val + j.val, by omega⟩
abbrev oSet (n : Fin 2048) : Finset S16384x1024.Idx := (Rect.part (s := S16384x1024) (a₀ := 0) odiv n).set

/-- Task `w`'s share of the arrays every task reads. -/
abbrev sh (w : Fin 32) : PosShare TreeShare := leaf 5 fullShare w

/-- What task `w` takes, the result's chunks aside. -/
def takes (I : Inp F) (d : Dev nD) (w : Fin 32) : sProp 𝕄 :=
  iprop((xLoc d ↦{sh w} I.X) ∗ (mLoc d ↦{sh w} I.M) ∗ (rLoc d ↦{sh w} I.R) ∗ (lLoc d ↦[lSet w]{fullShare} I.L))

/-- What task `w` is given; -/
def goW (I : Inp F) (d : Dev nD) (w : Fin 32) : sProp 𝕄 :=
  iprop(takes I d w ∗ bigSep Finset.univ fun j : Fin 64 => iprop(∃ f : Buf (Elt F) (oLoc d), oLoc d ↦[oSet (chunk w j)]{fullShare} f))
/-- and what it brings back. -/
def tdW (I : Inp F) (d : Dev nD) (w : Fin 32) : sProp 𝕄 :=
  iprop(takes I d w ∗ bigSep Finset.univ fun j : Fin 64 => (oLoc d ↦[oSet (chunk w j)]{fullShare} I.out))

instance goW_storable (I : Inp F) (d : Dev nD) (w : Fin 32) : BI.Storable (upEmb : UEmb _ 𝕄) (goW I d w) := by
  unfold goW takes; infer_instance
instance tdW_storable (I : Inp F) (d : Dev nD) (w : Fin 32) : BI.Storable (upEmb : UEmb _ 𝕄) (tdW I d w) := by
  unfold tdW takes; infer_instance

/-- The number of the task on tile `s` of core `c`. -/
abbrev num (c : Fin 2) (s : Fin 16) : Fin 32 := ⟨2 * s.val + c.val, by omega⟩

theorem nCore_zero : (K (F := F)).nCore 0 = 2 := rfl
theorem nSub_zero : (K (F := F)).nSub 0 = 16 := rfl

/-- What the one call carries: to each core its tiles' payloads, to each tile its task's. -/
def P (I : Dev nD → Inp F) : (K (F := F)).Pay (nD := nD) (Val := Elt F) (Name := ℕ) (U := UU) where
  st := fun q d c => match q with | 0 => bigSep Finset.univ fun s : Fin 16 => goW (I d) d (num (Fin.cast nCore_zero c) s)
  dn := fun q d c => match q with | 0 => bigSep Finset.univ fun s : Fin 16 => tdW (I d) d (num (Fin.cast nCore_zero c) s)
  go := fun q d c s => match q with | 0 => goW (I d) d (num (Fin.cast nCore_zero c) (Fin.cast nSub_zero s))
  td := fun q d c s => match q with | 0 => tdW (I d) d (num (Fin.cast nCore_zero c) (Fin.cast nSub_zero s))
  x := fun _ _ => iprop(emp)

instance P_storable (I : Dev nD → Inp F) : (P (F := F) I).IsStorable where
  st q d c := match q with
    | 0 => (inferInstance : BI.Storable (upEmb : UEmb _ 𝕄) (bigSep Finset.univ fun s : Fin 16 => goW (I d) d (num (Fin.cast nCore_zero c) s)))
  dn q d c := match q with
    | 0 => (inferInstance : BI.Storable (upEmb : UEmb _ 𝕄) (bigSep Finset.univ fun s : Fin 16 => tdW (I d) d (num (Fin.cast nCore_zero c) s)))
  go q d c s := match q with | 0 => goW_storable (I d) d _
  td q d c s := match q with | 0 => tdW_storable (I d) d _

omit [FloatOps F] in
theorem keep (A B : sProp 𝕄) : A ⊢ |={Set.univ}=> iprop(A ∗ (B -∗ B)) := by
  iintro H; imodintro
  isplitl [H]; · iexact H
  iintro H; iexact H

theorem by_tile (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

/-- A core's payload is its tiles'. -/
theorem vecSplit (I : Dev nD → Inp F) : (K (F := F)).VecSplit' (P I) 0 := by
  intro d c
  unfold P
  dsimp only
  rw [by_tile (fun s => goW (I d) d (num (Fin.cast nCore_zero c) s)), by_tile (fun s => tdW (I d) d (num (Fin.cast nCore_zero c) s))]
  exact keep _ _

/-! ## The arrays dealt and gathered -/

/-- The tasks by core and tile. -/
abbrev tasks : Fin 2 × Fin 16 ≃ Fin 32 := (Equiv.prodComm _ _).trans (finProdFinEquiv : Fin 16 × Fin 2 ≃ Fin (16 * 2))
theorem tasks_eq (c : Fin 2) (s : Fin 16) : tasks (c, s) = num c s := by
  apply Fin.ext; show (finProdFinEquiv (s, c)).val = _; simp [finProdFinEquiv]; omega

omit [FloatOps F] in
theorem by_task (Φ : Fin 32 → sProp 𝕄) :
    (bigSep Finset.univ fun c : Fin 2 => bigSep Finset.univ fun s : Fin 16 => Φ (num c s)) = bigSep Finset.univ Φ := by
  rw [bigSep_univ_equiv tasks Φ, bigSep_univ_prod]
  exact bigSep_congr fun c _ => bigSep_congr fun s _ => by rw [tasks_eq]

/-- The chunks by task. -/
abbrev chunks : Fin 32 × Fin 64 ≃ Fin 2048 := (finProdFinEquiv : Fin 32 × Fin 64 ≃ Fin (32 * 64))
theorem chunks_eq (w : Fin 32) (j : Fin 64) : chunks (w, j) = chunk w j := by
  apply Fin.ext; show (finProdFinEquiv (w, j)).val = _; simp [finProdFinEquiv]; omega

omit [FloatOps F] in
theorem by_chunk (Φ : Fin 2048 → sProp 𝕄) :
    (bigSep Finset.univ fun w : Fin 32 => bigSep Finset.univ fun j : Fin 64 => Φ (chunk w j)) = bigSep Finset.univ Φ := by
  rw [bigSep_univ_equiv chunks Φ, bigSep_univ_prod]
  exact bigSep_congr fun c _ => bigSep_congr fun s _ => by rw [chunks_eq]

omit [FloatOps F] in
theorem o_parts (d : Dev nD) (f : Buf (Elt F) (oLoc d)) :
    (bigSep Finset.univ fun w : Fin 32 => bigSep Finset.univ fun j : Fin 64 => (oLoc d ↦[oSet (chunk w j)]{fullShare} f : sProp 𝕄)) = oLoc d ↦{fullShare} f := by
  rw [by_chunk (fun n => (oLoc d ↦[oSet n]{fullShare} f : sProp 𝕄)),
    ← pointsTo_biUnion Finset.univ (ℓ := oLoc d) oSet (fun i _ j _ h => Rect.part_disjoint odiv h), Rect.biUnion_part odiv]

omit [FloatOps F] in
theorem l_parts (d : Dev nD) (f : Buf (Elt F) (lLoc d)) :
    (bigSep Finset.univ fun w : Fin 32 => (lLoc d ↦[lSet w]{fullShare} f : sProp 𝕄)) = lLoc d ↦{fullShare} f := by
  rw [← pointsTo_biUnion Finset.univ (ℓ := lLoc d) lSet (fun i _ j _ h => Rect.part_disjoint ldiv h), Rect.biUnion_part ldiv]

omit [FloatOps F] in
/-- What the tasks take together. -/
theorem takes_all (I : Inp F) (d : Dev nD) : (bigSep Finset.univ fun w : Fin 32 => takes I d w : sProp 𝕄)
    = iprop((xLoc d ↦{fullShare} I.X) ∗ (mLoc d ↦{fullShare} I.M) ∗ (rLoc d ↦{fullShare} I.R) ∗ (lLoc d ↦{fullShare} I.L)) := by
  unfold takes
  rw [bigSep_sep', bigSep_sep', bigSep_sep', l_parts]
  exact congrArg₂ _ (pointsTo_leaves Finset.univ _ 5 fullShare).symm
    (congrArg₂ _ (pointsTo_leaves Finset.univ _ 5 fullShare).symm (congrArg₂ _ (pointsTo_leaves Finset.univ _ 5 fullShare).symm rfl))

/-- The arrays dealt to the cores. -/
theorem st_all (I : Dev nD → Inp F) (d : Dev nD) (f : Buf (Elt F) (oLoc d)) :
    (iprop((xLoc d ↦{fullShare} (I d).X) ∗ (mLoc d ↦{fullShare} (I d).M) ∗ (rLoc d ↦{fullShare} (I d).R) ∗ (lLoc d ↦{fullShare} (I d).L) ∗ (oLoc d ↦{fullShare} f)) : sProp 𝕄)
      ⊢ bigSep Finset.univ fun c : Fin ((K (F := F)).nCore 0) => (P I).st 0 d c := by
  show _ ⊢ bigSep Finset.univ fun c : Fin 2 => bigSep Finset.univ fun s : Fin 16 => goW (I d) d (num c s)
  rw [by_task (fun w => goW (I d) d w)]
  unfold goW
  rw [bigSep_sep', takes_all]
  iintro ⟨Hx, Hm, Hr, Hl, Ho⟩
  isplitl [Hx Hm Hr Hl]
  · isplitl [Hx]; · iexact Hx
    isplitl [Hm]; · iexact Hm
    isplitl [Hr] <;> iassumption
  ihave Ho := (Entails.of_eq (o_parts d f).symm) $$ Ho
  iapply (show (bigSep Finset.univ fun w : Fin 32 => bigSep Finset.univ fun j : Fin 64 => (oLoc d ↦[oSet (chunk w j)]{fullShare} f : sProp 𝕄))
      ⊢ bigSep Finset.univ fun w : Fin 32 => bigSep Finset.univ fun j : Fin 64 => iprop(∃ f : Buf (Elt F) (oLoc d), oLoc d ↦[oSet (chunk w j)]{fullShare} f) from
    bigSep_mono fun w _ => bigSep_mono fun j _ => exists_intro (Φ := fun f : Buf (Elt F) (oLoc d) => (oLoc d ↦[oSet (chunk w j)]{fullShare} f : sProp 𝕄)) f)
  iexact Ho

/-- The arrays gathered from the cores, the result written. -/
theorem dn_all (I : Dev nD → Inp F) (d : Dev nD) :
    (bigSep Finset.univ fun c : Fin ((K (F := F)).nCore 0) => (P I).dn 0 d c)
      = (iprop(((xLoc d ↦{fullShare} (I d).X) ∗ (mLoc d ↦{fullShare} (I d).M) ∗ (rLoc d ↦{fullShare} (I d).R) ∗ (lLoc d ↦{fullShare} (I d).L)) ∗ (oLoc d ↦{fullShare} (I d).out)) : sProp 𝕄) := by
  show (bigSep Finset.univ fun c : Fin 2 => bigSep Finset.univ fun s : Fin 16 => tdW (I d) d (num c s)) = _
  rw [by_task (fun w => tdW (I d) d w)]
  unfold tdW
  rw [bigSep_sep', takes_all, o_parts]

end Cert.Proof
-- ==== Proof.Recip.lean ====
/-
  The reciprocals: the TensorCore call that writes 1 / (std + 1e-5), as a region of @main.
-/
module

public import proofs.«01_k».proof.Proof.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.VecWindow
public import Idealize.ShloMosaic.Lib.Pipeline.RegionsLoop

@[expose] public section

noncomputable section

namespace Cert.Proof

open Cert.KernelIdeal Cert.KernelIdeal.Gen Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds
open Idealize.ShloMosaic.Pipeline (BodyObligation)

variable {F : FTy → Type} [FloatOps F]

local notation "𝕄" => MT nD τ sig (HIx 1) (Elt F) ℕ UU ℕ

/-- The reciprocal of one element of `std`, `1e-5` added. -/
def rcp (s : Elt F .f32) : Elt F .f32 :=
  FloatOps.divf (Scalar.ofBits .f32 0x3F800000#32) (FloatOps.addf s (Scalar.ofBits .f32 0x3727C5AC#32))

variable (V : Dev nD → Valuation τ sig (Elt F))

/-! ## The body -/

/-- What is staged of the operand. -/
abbrev staged (c : Dev nD) : (cfg0.win 0).block.Idx → Elt F (cfg0.win 0).elt :=
  ((cfg0.win 0).blk t0_0).view.read (Elt F) (V c (Proc.devRef .tc main_arg3))

/-- A memref's buffer held whole. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body over its two buffers, with what it leaves in the second. -/
def recipRun (c : Dev nD) (M0 : Memref sig .tc .vmem S64x1024 .f32) (h0 : M0.IsWhole) (M1 : Memref sig .tc .vmem S64x1024 .f32) (h1 : M1.IsWhole)
    (f0 : Buf (Elt F) (M0.view.loc (c : Thread nD τ))) : { pay : Buf (Elt F) (M1.view.loc (c : Thread nD τ)) //
    ∀ (f1 : Buf (Elt F) (M1.view.loc (c : Thread nD τ))) (Q : PUnit → sProp 𝕄),
      iprop(ptM c M0 f0 ∗ ptM c M1 f1 ∗ (iprop(ptM c M0 f0 ∗ ptM c M1 pay) -∗ Q ⟨⟩))
        ⊢ wp frame (wpE (defs₀ (F := F)) Variants.none (c : Thread nD τ) none) Set.univ (cc0__recip_body (F := F) M0 h0 M1 h1) Q } := by
  refine ⟨?_, fun f1 Q => ?run⟩
  case run =>
    iintro ⟨H0, H1, Hk⟩
    simp only [cc0__recip_body_eq_skeleton]; unfold cc0__recip_body_skel
    sl_exec!
    sl_step
    iapply Hk
    isplitl [H0]; · iexact H0
    iexact H1

/-- What the body leaves in the result's buffer. -/
def recips (c : Dev nD) : (cfg0.win 1).block.Idx → Elt F (cfg0.win 1).elt :=
  (recipRun c (Memref.whole cc0_stg0_0) (Memref.isWhole_whole _) (Memref.whole cc0_stg1_0) (Memref.isWhole_whole _) (staged V c)).1

theorem recips_eq (c : Dev nD) : recips V c = fun p : S64x1024.Idx => rcp (staged V c p) := by
  unfold recips recipRun
  dsimp only
  unfold recipRun.sl.H1_1
  rw [← View.read_whole cc0_stg1_0 ((View.whole cc0_stg1_0).writes _ _ _)]
  refine (View.read_writes_full (s := S64x1024) (e := .f32) (View.whole cc0_stg1_0) (View.whole cc0_stg1_0).junk inb_S64x1024_S64x1024_0_0 _ []).trans ?_
  rw [View.readAt_full]
  rfl

/-! ## The region -/

/-- What the core owes while the call runs: the first handshake's dues, which it pays later. -/
abbrev owedT (c : Dev nD) : CellTallies nD τ sig (HIx 1) := (K (F := F)).Otc c 0

/-- That the pairs recorded are below the first handshake. -/
abbrev low (c : Dev nD) (W : Waits sig (HIx 1)) : Prop := (K (F := F)).WBelow (c : Thread nD τ) W (0)

/-- The call's data: the two arrays as they are on entry; after the body the operand as staged and the reciprocals. -/
def dat0 (c : Dev nD) : Pipeline.Dat τ (Elt F) (HIx 1) ℕ UU ℕ cfg0 c where
  A w := V c ((cfg0.win w).arr.view.loc (c : Thread nD τ)).2
  after w _ := match w with
    | ⟨0, _⟩ => staged V c
    | ⟨1, _⟩ => recips V c
  Φ _ := iprop(emp)
  q _ := fullShare
  owed _ := owedT (F := F) c
  recorded _ := {p | (K (F := F)).lev ((c : Thread nD τ), p.1) p.2 ≤ 0}

abbrev adm : (p : Fin 1) → (pcfgs (F := F) p).Adm := fun p => (cfgs p).toPCfg_adm

/-- The calls' data: there is one. -/
def pdats : (p : Fin 1) → (c : Dev nD) → Pipeline.Dat τ (Elt F) (HIx 1) ℕ UU ℕ (Pipeline.pin (pcfgs (F := F)) adm p) c
  | 0 => dat0 V

theorem before_in (c : Dev nD) (d : (cfg0.win 0).block.Idx → Elt F (cfg0.win 0).elt) : (dat0 V c).before 0 t0_0 d = staged V c := by
  unfold Pipeline.Dat.before; rw [if_pos (by decide)]; rfl

theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body meets the call's data. -/
theorem body_obligation (c : Dev nD) : BodyObligation (dat0 (F := F) V c) (defs₀ (F := F)) 𝒱₀ (none : HIx 1) Set.univ := fun t => by
  obtain rfl := fin_N0 t
  rw [bigSep_W0, bigSep_W0]
  simp only [owns_whole_eq]
  rw [show (dat0 V c).Φ t0_0.castSucc = iprop(emp) from rfl, show (dat0 V c).Φ t0_0.succ = iprop(emp) from rfl,
    show (dat0 V c).owesAt none t0_0.succ = (dat0 V c).owesAt none t0_0.castSucc from rfl]
  iintro ⟨-, HO, ⟨%d0, %f0, %hf0, H0⟩, ⟨%d1, %f1, %hf1, H1⟩⟩
  rw [before_in] at hf0
  subst hf0
  iapply ((recipRun c (Memref.whole cc0_stg0_0) (Memref.isWhole_whole _) (Memref.whole cc0_stg1_0) (Memref.isWhole_whole _) (staged V c)).2 f1 _)
  isplitl [H0]; · iexact H0
  isplitl [H1]; · iexact H1
  iintro ⟨H0, H1⟩
  isplitr; · iempintro
  isplitl [HO]; · iexact HO
  isplitl [H0]
  · iexists _; isplitr; swap; (· iexact H0); ipureintro; rfl
  iexists _; isplitr; swap; (· iexact H1); ipureintro; dsimp only [dat0, recips]

/-- The buffers after the call: the reciprocals in the result's. -/
abbrev afterRecip (c : Dev nD) : Valuation τ sig (Elt F) :=
  Function.update (V c) (Proc.devRef .tc main_v0) (fun p : S64x1024.Idx => rcp ((V c (Proc.devRef .tc main_arg3) : S64x1024.Idx → Elt F .f32) p))

/-- A window's one block is its whole array. -/
theorem emb_in (p : S64x1024.Idx) : ((cfg0.win 0).blk t0_0).view.emb p = p := by
  refine funext fun a => Fin.ext ?_
  match a with
  | ⟨0, _⟩ => show 0 + 1 * _ = _; omega
  | ⟨1, _⟩ => show 0 + 1 * _ = _; omega

theorem emb_out (p : S64x1024.Idx) : ((cfg0.win 1).blk t0_0).view.emb p = p := by
  refine funext fun a => Fin.ext ?_
  match a with
  | ⟨0, _⟩ => show 0 + 1 * _ = _; omega
  | ⟨1, _⟩ => show 0 + 1 * _ = _; omega

theorem staged_eq (c : Dev nD) (p : S64x1024.Idx) : staged V c p = (V c (Proc.devRef .tc main_arg3) : S64x1024.Idx → Elt F .f32) p := by
  unfold staged
  rw [View.read_apply, cast_eq]
  exact congrArg (V c (Proc.devRef .tc main_arg3)) (emb_in p)

theorem arrAt_in (c : Dev nD) : (pdats (F := F) V 0 c).arrAt 0 (Pipeline.pin (pcfgs (F := F)) adm 0).N = V c (Proc.devRef .tc main_arg3) :=
  (dat0 (F := F) V c).arrAt_in 0 rfl _

/-- What the call leaves in its result's array. -/
theorem final_eq (c : Dev nD) : (dat0 (F := F) V c).arrAt 1 (t0_0.val + 1) = (fun p : S64x1024.Idx => rcp ((V c (Proc.devRef .tc main_arg3) : S64x1024.Idx → Elt F .f32) p)) := by
  rw [(dat0 V c).arrAt_succ 1 t0_0, if_pos (flush0_1 t0_0)]
  generalize (dat0 V c).arrAt 1 ↑t0_0 = G
  funext p
  have h := congrFun (View.read_write_univ (Val := Elt F) (v := ((cfg0.win 1).blk t0_0).view) G ((dat0 V c).flushed 1 t0_0)) p
  rw [View.read_apply, cast_eq, emb_out] at h
  refine h.trans ?_
  have ha : (dat0 V c).after 1 t0_0 = fun p : S64x1024.Idx => rcp (staged V c p) := by dsimp only [dat0]; exact recips_eq V c
  unfold Pipeline.Dat.flushed
  rw [ha]
  exact congrArg rcp (staged_eq V c p)

theorem arrAt_out (c : Dev nD) : (pdats (F := F) V 0 c).arrAt 1 (Pipeline.pin (pcfgs (F := F)) adm 0).N = afterRecip V c (Proc.devRef .tc main_v0) :=
  (show _ = (dat0 (F := F) V c).arrAt 1 (t0_0.val + 1) from rfl).trans ((final_eq V c).trans (Function.update_self (Proc.devRef .tc main_v0 : DevRef τ sig) _ (V c)).symm)

/-- The call as a region: entered with the core's buffers, left with them and the reciprocals written. -/
def reg0 : Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut _ (pdats V) none 0 c (lev := (K (F := F)).lev) 0 (owedT (F := F) c) (fun _ => rfl)
    (fun _ _ => Finset.mem_univ _) (fun _ _ => le_refl _) fun g i hg => ⟨Finset.mem_univ _, lt_of_lt_of_le (Nat.succ_pos _) (SparseCore.Cfg.lev_of_Otc_pos hg)⟩
  pre c := iprop(unscopedBufs c (fun b => V c (Proc.devRef .tc b)) ∗ ∃ W, ⌜low (F := F) c W⌝ ∗ owes (c : Thread nD τ) (owedT (F := F) c) W)
  post c := iprop(unscopedBufs c (fun b => afterRecip V c (Proc.devRef .tc b)) ∗ ∃ W, ⌜low (F := F) c W⌝ ∗ owes (c : Thread nD τ) (owedT (F := F) c) W)
  X _ := iprop(emp)
  Y _ := iprop(emp)
  Z c := Pipeline.unscopedRest (Ix := HIx 1) (Name := ℕ) (U := UU) (Lvl := ℕ) spec0 c (fun b => V c (Proc.devRef .tc b))
  hentry c := by
    rw [Pipeline.ownSems0_none]
    have hsplit := Pipeline.arrays_of_unscopedBufs (pcfgs (F := F)) adm (pdats V) launch0.win launch0.arr_whole c
      ((pdats V 0 c).share_full fun _ => rfl) (fun b => V c (Proc.devRef .tc b)) fun _ => rfl
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by iintro -; iempintro
  hout c := by
    rw [Pipeline.ownSems0_none, scopedRest0_eq]
    iintro -; isplitr; · iempintro
    isplitr <;> iempintro
  hexit c := by
    have hjoin := Pipeline.unscopedBufs_of_arrays (pcfgs (F := F)) adm launch0.win launch0.arr_whole c (pdats V)
      ((pdats V 0 c).share_full fun _ => rfl) (fun b => V c (Proc.devRef .tc b)) (fun b => afterRecip V c (Proc.devRef .tc b))
      (fun w => (pdats (F := F) V 0 c).arrAt w (Pipeline.pin (pcfgs (F := F)) adm 0).N)
      (fun w => by
        revert w; show ∀ w : Fin 2, _
        intro w
        fin_cases w
        · exact (arrAt_in V c).trans (Function.update_of_ne (by decide) _ _).symm
        · exact arrAt_out V c)
      (fun b hb => Function.update_of_ne (fun h => hb (by rw [Proc.devRef_injective _ h]; exact Finset.mem_image.mpr ⟨(1 : Fin 2), Finset.mem_univ _, rfl⟩)) _ _)
    iintro ⟨Ha, HO, -, Hr⟩
    imodintro
    isplitl [Ha Hr]
    · iapply hjoin
      isplitl [Ha]; · iexact Ha
      iexact Hr
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof
-- ==== Proof.Host.lean ====
/-
  The host's operations between the two calls: the list of table rows and the tables' views in rows of 128.
-/
module

public import proofs.«01_k».proof.Proof.Setup
public import Idealize.ShloMosaic.Lib.StableHlo.ReadAt

@[expose] public section

noncomputable section

namespace Cert.Proof

open Cert.KernelIdeal Cert.KernelIdeal.Gen Idealize.ShloMosaic
open Idealize.SL.Sem

variable {F : FTy → Type} [FloatOps F]

/-- The host's operations, in order. -/
def ops : List (HloOp τ sig (Elt F)) :=
  [StableHlo.unary main_arg1 main_v1 (broadcastInDim S16384x1 ![0] bcast_S16384_S16384x1_0 : (⟨S16384, .i32⟩ : BufTy).Contents (Elt F) → (⟨S16384x1, .i32⟩ : BufTy).Contents (Elt F)),
    StableHlo.nullary main_c (constantI S_ 32 8#32),
    StableHlo.unary main_c main_v2 (broadcastInDim S16384x1 ![] bcast_S_S16384x1 : (⟨S_, .i32⟩ : BufTy).Contents (Elt F) → (⟨S16384x1, .i32⟩ : BufTy).Contents (Elt F)),
    StableHlo.binary main_v1 main_v2 main_v3 (muli : (⟨S16384x1, .i32⟩ : BufTy).Contents (Elt F) → (⟨S16384x1, .i32⟩ : BufTy).Contents (Elt F) → (⟨S16384x1, .i32⟩ : BufTy).Contents (Elt F)),
    StableHlo.nullary main_v4 (iotaInDim S8 32 0),
    StableHlo.unary main_v4 main_v5 (broadcastInDim S1x8 ![1] bcast_S8_S1x8_1 : (⟨S8, .i32⟩ : BufTy).Contents (Elt F) → (⟨S1x8, .i32⟩ : BufTy).Contents (Elt F)),
    StableHlo.unary main_v3 main_v6 (broadcastInDim S16384x8 ![0, 1] bcast_S16384x1_S16384x8_0_1 : (⟨S16384x1, .i32⟩ : BufTy).Contents (Elt F) → (⟨S16384x8, .i32⟩ : BufTy).Contents (Elt F)),
    StableHlo.unary main_v5 main_v7 (broadcastInDim S16384x8 ![0, 1] bcast_S1x8_S16384x8_0_1 : (⟨S1x8, .i32⟩ : BufTy).Contents (Elt F) → (⟨S16384x8, .i32⟩ : BufTy).Contents (Elt F)),
    StableHlo.binary main_v6 main_v7 main_v8 (addi : (⟨S16384x8, .i32⟩ : BufTy).Contents (Elt F) → (⟨S16384x8, .i32⟩ : BufTy).Contents (Elt F) → (⟨S16384x8, .i32⟩ : BufTy).Contents (Elt F)),
    StableHlo.reshape main_v8 main_v9 (rfl : (.i32 : EltTy) = .i32) shapeCasts_S16384x8_S131072,
    StableHlo.reshape main_arg2 main_v10 (rfl : (.f32 : EltTy) = .f32) shapeCasts_S64x1024_S512x128,
    StableHlo.reshape main_v0 main_v11 (rfl : (.f32 : EltTy) = .f32) shapeCasts_S64x1024_S512x128]

/-- `@main` is the first call, the host's operations, the second call. -/
theorem main_eq (d : Dev nD) : main (F := F) d =
    (Prog.lift (.customCall (SparseCore.inner (Pipeline.entry 0)) ()) >>= fun _ => StableHlo.seq ops >>= fun _ => sc.run d 0 >>= fun _ => pure ⟨⟩) := rfl

variable (V : Valuation τ sig (Elt F))

/-- Word `8 n + q` of the list is eight times the index of row `n`, and `q`. -/
theorem after_list (j : S131072.Idx) : (StableHlo.after ops V (Proc.devRef .tc main_v9) : S131072.Idx → BitVec 32) j
    = IntOp.addi (IntOp.muli ((V (Proc.devRef .tc main_arg1) : S16384.Idx → BitVec 32) (ValueIdx.ix1 ⟨(j 0).val / 8, by have h : (j 0).val < 131072 := (j 0).isLt; omega⟩)) 8#32)
        (BitVec.ofNat 32 ((j 0).val % 8)) := by
  unfold ops
  after_reads_at
  rfl

/-- The place of a table behind a place of its view: row `8 g + q` holds lanes `128 q` to `128 q + 127` of row `g`. -/
abbrev place (p : S512x128.Idx) : S64x1024.Idx :=
  ValueIdx.ix2 ⟨(p 0).val / 8, by have h : (p 0).val < 512 := (p 0).isLt; omega⟩
    ⟨128 * ((p 0).val % 8) + (p 1).val, by have h : (p 1).val < 128 := (p 1).isLt; omega⟩

theorem after_mean (p : S512x128.Idx) : (StableHlo.after ops V (Proc.devRef .tc main_v10) : S512x128.Idx → Elt F .f32) p
    = (V (Proc.devRef .tc main_arg2) : S64x1024.Idx → Elt F .f32) (place p) := by
  unfold ops
  after_reads_at
  exact congrArg (fun n => (V (Proc.devRef .tc main_arg2) : S64x1024.Idx → Elt F .f32) (ValueIdx.ix2 _ n)) (Fin.ext (congrArg (· + (p 1).val) (Nat.mul_comm _ _)))

theorem after_recip (p : S512x128.Idx) : (StableHlo.after ops V (Proc.devRef .tc main_v11) : S512x128.Idx → Elt F .f32) p
    = (V (Proc.devRef .tc main_v0) : S64x1024.Idx → Elt F .f32) (place p) := by
  unfold ops
  after_reads_at
  exact congrArg (fun n => (V (Proc.devRef .tc main_v0) : S64x1024.Idx → Elt F .f32) (ValueIdx.ix2 _ n)) (Fin.ext (congrArg (· + (p 1).val) (Nat.mul_comm _ _)))

/-- The arguments are as they were. -/
theorem after_arg0 : StableHlo.after ops V (Proc.devRef .tc main_arg0) = V (Proc.devRef .tc main_arg0) := by
  unfold ops; after_reads_simp
theorem after_arg1 : StableHlo.after ops V (Proc.devRef .tc main_arg1) = V (Proc.devRef .tc main_arg1) := by
  unfold ops; after_reads_simp
theorem after_arg2 : StableHlo.after ops V (Proc.devRef .tc main_arg2) = V (Proc.devRef .tc main_arg2) := by
  unfold ops; after_reads_simp
theorem after_arg3 : StableHlo.after ops V (Proc.devRef .tc main_arg3) = V (Proc.devRef .tc main_arg3) := by
  unfold ops; after_reads_simp

/-- That every index is a table's row. -/
def InRange : Prop := ∀ n : S16384.Idx, ((V (Proc.devRef .tc main_arg1) : S16384.Idx → BitVec 32) n).toNat < 64

variable {V}

/-- With the indices in range, a word of the list as a number. -/
theorem word_toNat (hV : InRange V) (j : S131072.Idx) : ((StableHlo.after ops V (Proc.devRef .tc main_v9) : S131072.Idx → BitVec 32) j).toNat
    = 8 * ((V (Proc.devRef .tc main_arg1) : S16384.Idx → BitVec 32) (ValueIdx.ix1 ⟨(j 0).val / 8, by have h : (j 0).val < 131072 := (j 0).isLt; omega⟩)).toNat + (j 0).val % 8 := by
  rw [after_list]
  have h := hV (ValueIdx.ix1 ⟨(j 0).val / 8, by have h : (j 0).val < 131072 := (j 0).isLt; omega⟩)
  generalize ((V (Proc.devRef .tc main_arg1) : S16384.Idx → BitVec 32) (ValueIdx.ix1 ⟨(j 0).val / 8, _⟩)) = w at h ⊢
  have h8 : (j 0).val % 8 < 8 := Nat.mod_lt _ (by omega)
  simp only [IntOp.addi, IntOp.muli, BitVec.toNat_add, BitVec.toNat_mul, BitVec.toNat_ofNat]
  omega

/-- What the second call reads. -/
def inputs (hV : InRange V) : Inp F where
  X := V (Proc.devRef .tc main_arg0)
  L := StableHlo.after ops V (Proc.devRef .tc main_v9)
  M := StableHlo.after ops V (Proc.devRef .tc main_v10)
  R := StableHlo.after ops V (Proc.devRef .tc main_v11)
  hL j := by
    rw [word_toNat hV]
    have h := hV (ValueIdx.ix1 ⟨(j 0).val / 8, by have h : (j 0).val < 131072 := (j 0).isLt; omega⟩)
    omega

/-- The place of a table the mathematics reads for a place of `x`: the row's index, the same lane. -/
abbrev from_ (hV : InRange V) (p : S16384x1024.Idx) : S64x1024.Idx :=
  ValueIdx.ix2 ⟨((V (Proc.devRef .tc main_arg1) : S16384.Idx → BitVec 32) (ValueIdx.ix1 ⟨(p 0).val, (p 0).isLt⟩)).toNat, hV _⟩ ⟨(p 1).val, (p 1).isLt⟩

theorem place_cell (hV : InRange V) (p : S16384x1024.Idx) : place ((inputs hV).cell p) = from_ hV p := by
  have h0 : (p 0).val < 16384 := (p 0).isLt
  have h1 : (p 1).val < 1024 := (p 1).isLt
  have hw : ((inputs hV).L (wordAt p)).toNat = 8 * ((V (Proc.devRef .tc main_arg1) : S16384.Idx → BitVec 32) (ValueIdx.ix1 ⟨(p 0).val, (p 0).isLt⟩)).toNat + (p 1).val / 128 := by
    refine (word_toNat hV (wordAt p)).trans ?_
    have e : (ValueIdx.ix1 ⟨(8 * (p 0).val + (p 1).val / 128) / 8, by omega⟩ : S16384.Idx) = ValueIdx.ix1 ⟨(p 0).val, (p 0).isLt⟩ :=
      congrArg ValueIdx.ix1 (Fin.ext (by show (8 * (p 0).val + (p 1).val / 128) / 8 = (p 0).val; omega))
    have e' : (8 * (p 0).val + (p 1).val / 128) % 8 = (p 1).val / 128 := by omega
    exact congrArg₂ (fun a b => 8 * ((V (Proc.devRef .tc main_arg1) : S16384.Idx → BitVec 32) a).toNat + b) e e'
  have a0 : ((inputs hV).L (wordAt p)).toNat / 8 = ((V (Proc.devRef .tc main_arg1) : S16384.Idx → BitVec 32) (ValueIdx.ix1 ⟨(p 0).val, (p 0).isLt⟩)).toNat := by omega
  have a1 : 128 * (((inputs hV).L (wordAt p)).toNat % 8) + (p 1).val % 128 = (p 1).val := by omega
  exact congrArg₂ ValueIdx.ix2 (Fin.ext a0) (Fin.ext a1)

/-- What the second call writes, by the first call's operands. -/
theorem out_eq (hV : InRange V) (p : S16384x1024.Idx) : (inputs hV).out p
    = norm ((V (Proc.devRef .tc main_arg0) : S16384x1024.Idx → Elt F .f32) p) ((V (Proc.devRef .tc main_arg2) : S64x1024.Idx → Elt F .f32) (from_ hV p))
        ((V (Proc.devRef .tc main_v0) : S64x1024.Idx → Elt F .f32) (from_ hV p)) := by
  unfold Inp.out
  rw [← place_cell hV p]
  exact congrArg₂ (norm _) (after_mean V _) (after_recip V _)

end Cert.Proof
-- ==== Proof.Chunk.lean ====
/-
  A task's chunks are the result's: what the task's own memrefs read of the arrays dealt to it.
-/
module

public import proofs.«01_k».proof.Proof.Setup

@[expose] public section

noncomputable section

namespace Cert.Proof

open Cert.KernelIdeal Cert.KernelIdeal.Gen Idealize.ShloMosaic
open Idealize.ShloMosaic.ValueIdx
open Idealize.SL.BI.BIBase

variable {F : FTy → Type} [FloatOps F] (I : Inp F) (i : grid1.Coords)

/-- The task of a tile. -/
abbrev wf (i : grid1.Coords) : Fin 32 := ⟨wid i, wid_lt i⟩

/-- The arrays as the tiles address them. -/
abbrev AA : Arrs := ⟨Memref.whole main_arg0_scv, Memref.whole main_v10_scv, Memref.whole main_v11_scv, Memref.whole main_v12_scv, Memref.whole cc1_scratch14⟩
abbrev lst : Memref sig .scVector .hbm S131072 .i32 := Memref.whole main_v9_scv

/-! ## The index of the gathered row -/

theorem list_word (w : Fin 32) (c : Nat) (hc : c < 64) (k : Fin 64) :
    SparseCore.rows ((I.vals w).lc c hc) rfl (fun _ => (I.vals w).hL _) k
      = ⟨(I.L (ix1 ⟨4096 * w.val + (64 * c + k.val), by omega⟩)).toNat, I.hL _⟩ := by
  unfold SparseCore.rows
  apply Fin.ext
  show ((I.vals w).lc c hc (S64.rowMajor.symm k)).toNat = _
  have hk : ((S64.rowMajor.symm k) 0).val = k.val := by
    rw [← Shape.rowMajor_val_one (d := ![64]) (S64.rowMajor.symm k)]
    exact congrArg Fin.val (S64.rowMajor.apply_symm_apply k)
  show (I.L (ix1 _)).toNat = _
  congr 2
  apply congrArg ix1
  apply Fin.ext
  show 4096 * w.val + (64 * c + 1 * ((S64.rowMajor.symm k) 0).val) = 4096 * w.val + (64 * c + k.val)
  rw [hk]; omega

theorem gathered (w : Fin 32) (c : Nat) (hc : c < 64) (T : S512x128.Idx → Elt F .f32) (a : Fin 8) (b : Fin 1024) :
    (I.vals w).gc T c hc (blockAt a b)
      = T (ix2 ⟨(I.L (ix1 ⟨8 * (8 * (64 * w.val + c) + a.val) + b.val / 128, by omega⟩)).toNat, I.hL _⟩ ⟨b.val % 128, Nat.mod_lt _ (by omega)⟩) := by
  unfold Vals.gc SparseCore.gatherPayload
  apply congrArg T
  funext ax
  apply Fin.ext
  match ax with
  | 0 =>
    show 0 + 1 * ((gathers_S512x128_S64x128.idx _ (blockAt a b)) 0).val = _
    have h := Shape.Gathers.idx_axis gathers_S512x128_S64x128 (SparseCore.rows ((I.vals w).lc c hc) rfl (fun _ => (I.vals w).hL _)) (blockAt a b)
    rw [Nat.zero_add, Nat.one_mul]
    refine (congrArg Fin.val h).trans ((congrArg Fin.val (list_word I w c hc _)).trans ?_)
    show (I.L (ix1 _)).toNat = (I.L (ix1 _)).toNat
    congr 2
    apply congrArg ix1
    apply Fin.ext
    show 4096 * w.val + (64 * c + (8 * a.val + b.val / 128)) = 8 * (8 * (64 * w.val + c) + a.val) + b.val / 128
    omega
  | 1 =>
    show 0 + 1 * ((gathers_S512x128_S64x128.idx _ (blockAt a b)) 1).val = _
    have h := Shape.Gathers.idx_of_ne gathers_S512x128_S64x128 (SparseCore.rows ((I.vals w).lc c hc) rfl (fun _ => (I.vals w).hL _)) (blockAt a b) (b := 1) (by decide)
    rw [Nat.zero_add, Nat.one_mul]
    exact h.trans rfl

theorem out_chunk (w : Fin 32) (c : Nat) (hc : c < 64) (p : S8x1024.Idx) :
    I.out ((Rect.unit (s := S16384x1024) ![8 * (64 * w.val + c), 0] S8x1024.size (inbX w.val c w.isLt hc)).emb p) = (I.vals w).tc c hc p := by
  obtain ⟨a, b, rfl⟩ : ∃ a b, p = ix2 a b := ⟨p 0, p 1, eq_ix2 p⟩
  unfold Inp.out Vals.tc
  have hc : I.cell ((Rect.unit (s := S16384x1024) ![8 * (64 * w.val + c), 0] S8x1024.size (inbX w.val c w.isLt hc)).emb (ix2 a b))
      = ix2 ⟨(I.L (ix1 ⟨8 * (8 * (64 * w.val + c) + a.val) + b.val / 128, by omega⟩)).toNat, I.hL _⟩ ⟨b.val % 128, Nat.mod_lt _ (by omega)⟩ := by
    have e0 : (((Rect.unit (s := S16384x1024) ![8 * (64 * w.val + c), 0] S8x1024.size (inbX w.val c w.isLt hc)).emb (ix2 a b)) 0).val = 8 * (64 * w.val + c) + a.val := by
      show 8 * (64 * w.val + c) + 1 * a.val = _; omega
    have e1 : (((Rect.unit (s := S16384x1024) ![8 * (64 * w.val + c), 0] S8x1024.size (inbX w.val c w.isLt hc)).emb (ix2 a b)) 1).val = b.val := by
      show 0 + 1 * b.val = _; omega
    unfold Inp.cell wordAt
    congr 1
    · apply Fin.ext
      show (I.L (ix1 _)).toNat = (I.L (ix1 _)).toNat
      congr 2
      apply congrArg ix1
      apply Fin.ext
      simp only [e0, e1]
    · apply Fin.ext
      simp only [e1]
  rw [hc]
  exact congrArg₂ (norm _) (gathered I w c _ I.M a b).symm (gathered I w c _ I.R a b).symm

/-! ## The elements -/

theorem lRect_eq : Rect.unit (s := S131072) (k1_off1 i) S4096.size (k1_off1_inb i) = Rect.part (s := S131072) (a₀ := 0) ldiv (wf i) := by
  unfold Rect.part Rect.block
  congr 1 <;> funext a
  · rw [off1_val]
    match a with
    | 0 => simp [Shape.partIx, Shape.partSize]; omega
  · match a with
    | 0 => simp [Shape.partSize]

theorem oRect_eq (w : Fin 32) (j : Fin 64) :
    Rect.unit (s := S16384x1024) ![8 * (64 * w.val + j.val), 0] S8x1024.size (inbX w.val j.val w.isLt j.isLt) = Rect.part (s := S16384x1024) (a₀ := 0) odiv (chunk w j) := by
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem part_set : (part i lst).view.set = lSet (wf i) := by
  show ((View.whole (main_v9_scv : Ref sig .scVector)).slice (Rect.unit (s := S131072) (k1_off1 i) S4096.size (k1_off1_inb i))).set = _
  rw [View.set_slice, lRect_eq]; exact Finset.map_refl

theorem out_set (w : Fin 32) (j : Fin 64) : (outAt AA w.val j.val w.isLt j.isLt).view.set = oSet (chunk w j) := by
  show ((View.whole (main_v12_scv : Ref sig .scVector)).slice (Rect.unit (s := S16384x1024) ![8 * (64 * w.val + j.val), 0] S8x1024.size (inbX w.val j.val w.isLt j.isLt))).set = _
  rw [View.set_slice, oRect_eq]; exact Finset.map_refl

theorem part_read : (part i lst).view.read (Elt F) I.L = (I.vals (wf i)).L := by
  funext j
  refine (View.read_apply _ _).trans ((cast_eq _ _).trans ?_)
  show I.L ((Rect.unit (s := S131072) (k1_off1 i) S4096.size (k1_off1_inb i)).emb j) = I.L (ix1 _)
  apply congrArg I.L
  funext a
  match a with
  | 0 =>
    apply Fin.ext
    show k1_off1 i 0 + 1 * (j 0).val = 4096 * wid i + (j 0).val
    rw [off1_val]; show 4096 * wid i + 1 * (j 0).val = _; omega

theorem out_read (w : Fin 32) (j : Fin 64) : (outAt AA w.val j.val w.isLt j.isLt).view.read (Elt F) I.out = (I.vals w).tc j.val j.isLt := by
  funext p
  refine (View.read_apply _ _).trans ((cast_eq _ _).trans ?_)
  exact out_chunk I w j.val j.isLt p

end Cert.Proof
-- ==== Proof.Tile.lean ====
/-
  A tile's body: its own buffers and semaphores counted out, then the task run between what the tile is given and what it
  brings back.
-/
module

public import proofs.«01_k».proof.Proof.Chunk

@[expose] public section

noncomputable section

namespace Cert.Proof

open Cert.KernelIdeal Cert.KernelIdeal.Gen Idealize.ShloMosaic
open Idealize.ShloMosaic.SparseCore (V)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-! ## The slots -/

abbrev T0 : Slot := ⟨Memref.whole cc1_scratch0, Memref.whole cc1_scratch4, Memref.whole cc1_scratch8, Memref.isWhole_whole _, Memref.isWhole_whole _, Memref.isWhole_whole _, cc1_scratch15, cc1_scratch19⟩
abbrev T1 : Slot := ⟨Memref.whole cc1_scratch1, Memref.whole cc1_scratch5, Memref.whole cc1_scratch9, Memref.isWhole_whole _, Memref.isWhole_whole _, Memref.isWhole_whole _, cc1_scratch16, cc1_scratch20⟩
abbrev T2 : Slot := ⟨Memref.whole cc1_scratch2, Memref.whole cc1_scratch6, Memref.whole cc1_scratch10, Memref.isWhole_whole _, Memref.isWhole_whole _, Memref.isWhole_whole _, cc1_scratch17, cc1_scratch21⟩
abbrev T3 : Slot := ⟨Memref.whole cc1_scratch3, Memref.whole cc1_scratch7, Memref.whole cc1_scratch11, Memref.isWhole_whole _, Memref.isWhole_whole _, Memref.isWhole_whole _, cc1_scratch18, cc1_scratch22⟩

/-! ## What a subcore has of its own -/

/-- The scratch buffers. -/
def scratch : List (Ref sig .scVector) :=
  [cc1_scratch0, cc1_scratch4, cc1_scratch8, cc1_scratch1, cc1_scratch5, cc1_scratch9, cc1_scratch2, cc1_scratch6, cc1_scratch10,
    cc1_scratch3, cc1_scratch7, cc1_scratch11, cc1_scratch12, cc1_scratch13, cc1_scratch14]

/-- The semaphores. -/
def sems : List (SemLoc sig) :=
  [.dma cc1_scratch15.sem, .dma cc1_scratch19.sem, .dma cc1_scratch16.sem, .dma cc1_scratch20.sem, .dma cc1_scratch17.sem, .dma cc1_scratch21.sem,
    .dma cc1_scratch18.sem, .dma cc1_scratch22.sem, .dma cc1_scratch23.sem, .dma cc1_scratch24.sem, .dma cc1_scoped0.sem]

theorem scratch_nodup : scratch.Nodup := by decide
theorem sems_nodup : sems.Nodup := by decide
theorem sems_scoped : ∀ s ∈ sems, (s : SemLoc sig).isScoped .scVector = true := by decide

variable (d : Dev nD) (i : grid1.Coords)

/-- A family's listed members, and the others. -/
theorem listed {A J : Type} [DecidableEq A] [DecidableEq J] {s : Finset J} (l : List A) (hl : l.Nodup) (f : A → J) (hf : Function.Injective f)
    (sub : ∀ a ∈ l, f a ∈ s) (Φ : J → sProp 𝕄) :
    bigSep s Φ = iprop(bigSepL l (fun a => Φ (f a)) ∗ bigSep (s \ l.toFinset.image f) Φ) := by
  rw [SparseCore.bigSep_sdiff_split' (t := l.toFinset.image f) fun x hx => by
      obtain ⟨a, ha, rfl⟩ := Finset.mem_image.mp hx; exact sub a (List.mem_toFinset.1 ha),
    SparseCore.bigSep_image_of_injOn hf.injOn, bigSep_eq_bigSepL_of_eq l rfl hl]

/-- The subcore's other buffers and semaphores. -/
def restBufs : sProp 𝕄 :=
  bigSep (ownRefs (proc i) \ scratch.toFinset.image (proc i).devRef) fun b => iprop(∃ f, ((d, b) : Loc nD τ sig) ↦{fullShare} f)
def restSems : sProp 𝕄 :=
  bigSep (ownCells (thr d i) \ sems.toFinset.image fun s => ((thr d i, s) : GSem nD τ sig)) fun g => semVal g 0

theorem scratch_mem (b : Ref sig .scVector) (hb : b ∈ scratch) : (proc i).devRef b ∈ ownRefs (τ := τ) (sig := sig) (proc i) := by
  have h : ∀ b ∈ scratch, ((proc i).devRef b).owner = .proc (proc i) := by
    simp only [scratch, List.forall_mem_cons, List.not_mem_nil, false_imp_iff, implies_true, and_true]
    exact ⟨rfl, rfl, rfl, rfl, rfl, rfl, rfl, rfl, rfl, rfl, rfl, rfl, rfl, rfl, rfl⟩
  exact mem_ownRefs_of_owner (h b hb)

theorem bufs_eq : (ownBufs (thr d i) : sProp 𝕄)
    = iprop(bigSepL scratch (fun b => iprop(∃ f, (thr d i).loc b ↦{fullShare} f)) ∗ restBufs d i) :=
  listed scratch scratch_nodup (proc i).devRef (Proc.devRef_injective _) (scratch_mem i) _

theorem sems_eq : (ownSems0 (thr d i) : sProp 𝕄) = iprop(bigSepL sems (fun s => semVal ((thr d i, s) : GSem nD τ sig) 0) ∗ restSems d i) :=
  listed sems sems_nodup (fun s => ((thr d i, s) : GSem nD τ sig)) (fun _ _ h => (Prod.mk.inj h).2)
    (fun s hs => mem_ownCells.2 ⟨rfl, sems_scoped s hs⟩) _

/-! ## Whole buffers -/

theorem two_more {J : Type} (a b : J) (l : List J) (Φ : J → sProp 𝕄) : bigSepL (a :: b :: l) Φ = iprop(Φ a ∗ bigSepL (b :: l) Φ) := rfl

theorem whole_holds (c : Thread nD τ) {sp : Space} {s : Shape} {e : EltTy} (m : Memref sig c.2.kind sp s e) (hm : m.view.set = Finset.univ)
    (q : PosShare TreeShare) (f : Buf (Elt F) (m.view.loc c)) (V : s.Idx → Elt F e) (h : m.view.read (Elt F) f = V) :
    (m.view.loc c ↦{q} f : sProp 𝕄) ⊢ holds c m q V := by
  refine Entails.trans (Entails.of_eq ?_) (holds_of_pointsTo c m q f V h)
  rw [hm]

theorem holds_whole (c : Thread nD τ) {sp : Space} {s : Shape} {e : EltTy} (m : Memref sig c.2.kind sp s e) (hm : m.view.set = Finset.univ)
    (q : PosShare TreeShare) (f : Buf (Elt F) (m.view.loc c)) (V : s.Idx → Elt F e) (h : m.view.read (Elt F) f = V) :
    (holds c m q V : sProp 𝕄) ⊢ (m.view.loc c ↦{q} f) := by
  refine Entails.trans (pointsTo_of_holds c m q f V h) (Entails.of_eq ?_)
  rw [hm]

theorem some_whole (c : Thread nD τ) {sp : Space} {s : Shape} {e : EltTy} (m : Memref sig c.2.kind sp s e) (hm : m.view.set = Finset.univ) :
    iprop(∃ f, m.view.loc c ↦{fullShare} f : sProp 𝕄) ⊢ some_ c m := by
  unfold some_
  iintro ⟨%f, H⟩
  iexists (m.view.read (Elt F) f)
  iapply (whole_holds c m hm fullShare f _ rfl)
  iexact H

theorem whole_some (c : Thread nD τ) {sp : Space} {s : Shape} {e : EltTy} (m : Memref sig c.2.kind sp s e) (hm : m.view.set = Finset.univ) :
    (some_ c m : sProp 𝕄) ⊢ iprop(∃ f, m.view.loc c ↦{fullShare} f) := by
  unfold some_ holds
  iintro ⟨%V, %f, -, H⟩
  iexists f
  iapply (Entails.of_eq (show (m.view.loc c ↦[m.view.set]{fullShare} f : sProp 𝕄) = (m.view.loc c ↦{fullShare} f) by rw [hm]))
  iexact H

theorem scratch_some (b : Ref sig .scVector) :
    (iprop(∃ f, (thr d i).loc b ↦{fullShare} f) : sProp 𝕄) = some_ (thr d i) (Memref.whole b) :=
  Entails.antisymm (some_whole (thr d i) (Memref.whole b) (View.set_whole _)) (whole_some (thr d i) (Memref.whole b) (View.set_whole _))

theorem own_eq : (iprop(ownBufs (thr d i) ∗ ownSems0 (thr d i)) : sProp 𝕄)
    ⊣⊢ iprop(Own d i AA T0 T1 T2 T3 (Memref.whole cc1_scratch12) (Memref.whole cc1_scratch13) cc1_scratch23 cc1_scratch24 cc1_scoped0 ∗ restBufs d i ∗ restSems d i) := by
  rw [bufs_eq, sems_eq]
  simp only [scratch_some]
  unfold scratch sems Own Spare
  simp only [two_more, bigSepL_singleton]
  constructor
  · iintro ⟨⟨⟨B0, B4, B8, B1, B5, B9, B2, B6, B10, B3, B7, B11, B12, B13, B14⟩, HB⟩, ⟨⟨A0, G0, A1, G1, A2, G2, A3, G3, O0, O1, SC⟩, HS⟩⟩
    isplitr [HB HS]
    · isplitl [B0 B4 B8 A0 G0]; · iframe
      isplitl [B1 B5 B9 A1 G1]; · iframe
      isplitl [B2 B6 B10 A2 G2]; · iframe
      isplitl [B3 B7 B11 A3 G3]; · iframe
      iframe
    iframe
  · iintro ⟨⟨⟨B0, B4, B8, A0, G0⟩, ⟨B1, B5, B9, A1, G1⟩, ⟨B2, B6, B10, A2, G2⟩, ⟨B3, B7, B11, A3, G3⟩, B12, B13, B14, O0, O1, SC⟩, HB, HS⟩
    isplitl [B0 B4 B8 B1 B5 B9 B2 B6 B10 B3 B7 B11 B12 B13 B14 HB]
    · iframe
    iframe

end Cert.Proof
-- ==== Proof.Body.lean ====
/-
  The launch's obligation of a tile: its task, between what it is given and what it brings back.
-/
module

public import proofs.«01_k».proof.Proof.Tile

@[expose] public section

noncomputable section

namespace Cert.Proof

open Cert.KernelIdeal Cert.KernelIdeal.Gen Idealize.ShloMosaic
open Idealize.ShloMosaic.SparseCore (V)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

variable (I : Inp F) (d : Dev nD) (i : grid1.Coords)

/-- What a task reads, as its own memrefs hold it. -/
theorem takes_held : (takes I d (wf i) : sProp 𝕄)
    ⊣⊢ iprop(Reads (I.vals (wf i)) d i AA (sh (wf i)) (sh (wf i)) (sh (wf i)) ∗ holds (thr d i) (part i lst) fullShare (I.vals (wf i)).L) := by
  unfold takes Reads
  constructor
  · iintro ⟨HX, HM, HR, HL⟩
    isplitl [HX HM HR]
    · isplitl [HX]
      · iapply (whole_holds (thr d i) AA.x (View.set_whole _) (sh (wf i)) I.X I.X (View.read_whole _ _)) $$ HX
      isplitl [HM]
      · iapply (whole_holds (thr d i) AA.tm (View.set_whole _) (sh (wf i)) I.M I.M (View.read_whole _ _)) $$ HM
      iapply (whole_holds (thr d i) AA.tr (View.set_whole _) (sh (wf i)) I.R I.R (View.read_whole _ _)) $$ HR
    iapply (holds_of_pointsTo (thr d i) (part i lst) fullShare I.L (I.vals (wf i)).L (part_read I i))
    iapply (Entails.of_eq (show (lLoc d ↦[lSet (wf i)]{fullShare} I.L : sProp 𝕄) = ((part i lst).view.loc (thr d i) ↦[(part i lst).view.set]{fullShare} I.L) by rw [part_set]))
    iexact HL
  · iintro ⟨⟨HX, HM, HR⟩, HL⟩
    isplitl [HX]
    · iapply (holds_whole (thr d i) AA.x (View.set_whole _) (sh (wf i)) I.X (I.vals (wf i)).X (View.read_whole _ _)) $$ HX
    isplitl [HM]
    · iapply (holds_whole (thr d i) AA.tm (View.set_whole _) (sh (wf i)) I.M (I.vals (wf i)).M (View.read_whole _ _)) $$ HM
    isplitl [HR]
    · iapply (holds_whole (thr d i) AA.tr (View.set_whole _) (sh (wf i)) I.R (I.vals (wf i)).R (View.read_whole _ _)) $$ HR
    iapply (Entails.of_eq (show (lLoc d ↦[lSet (wf i)]{fullShare} I.L : sProp 𝕄) = ((part i lst).view.loc (thr d i) ↦[(part i lst).view.set]{fullShare} I.L) by rw [part_set]).symm)
    iapply (pointsTo_of_holds (thr d i) (part i lst) fullShare I.L (I.vals (wf i)).L (part_read I i))
    iexact HL

theorem some_chunk (j : Fin 64) : (iprop(∃ f : Buf (Elt F) (oLoc d), oLoc d ↦[oSet (chunk (wf i) j)]{fullShare} f) : sProp 𝕄)
    ⊢ some_ (thr d i) (outAt AA (I.vals (wf i)).w j.val (I.vals (wf i)).hw j.isLt) := by
  unfold some_
  iintro ⟨%f, H⟩
  iexists ((outAt AA (wf i).val j.val (wf i).isLt j.isLt).view.read (Elt F) f)
  iapply (holds_of_pointsTo (thr d i) (outAt AA (wf i).val j.val (wf i).isLt j.isLt) fullShare f _ rfl)
  iapply (Entails.of_eq (show (oLoc d ↦[oSet (chunk (wf i) j)]{fullShare} f : sProp 𝕄)
    = ((outAt AA (wf i).val j.val (wf i).isLt j.isLt).view.loc (thr d i) ↦[(outAt AA (wf i).val j.val (wf i).isLt j.isLt).view.set]{fullShare} f) by rw [out_set]))
  iexact H

theorem done_chunk (j : Fin 64) : (Done (I.vals (wf i)) d i AA j.val j.isLt : sProp 𝕄) ⊢ (oLoc d ↦[oSet (chunk (wf i) j)]{fullShare} I.out) := by
  unfold Done
  refine Entails.trans (pointsTo_of_holds (thr d i) (outAt AA (wf i).val j.val (wf i).isLt j.isLt) fullShare I.out _ (out_read I (wf i) j)) (Entails.of_eq ?_)
  rw [out_set]

/-- The units of the copies. -/
abbrev NX : ℕ := T0.xv.view.dmaCredit
abbrev NG : ℕ := (T0.mv.slice (S64x128.rowRect gathers_S512x128_S64x128.axis' ⟨0, by decide⟩) (S64x128.stride_rowRect gathers_S512x128_S64x128.axis' ⟨0, by decide⟩)).view.dmaCredit
abbrev NO : ℕ := (rowsM AA.out ![0, 0] (by decide)).view.dmaCredit
abbrev NL : ℕ := AA.idx.view.dmaCredit

theorem slot_ok0 : SlotOk T0 NX NG := ⟨rfl, fun _ => rfl, fun _ => rfl, by decide, by decide⟩
theorem slot_ok1 : SlotOk T1 NX NG := ⟨rfl, fun _ => rfl, fun _ => rfl, by decide, by decide⟩
theorem slot_ok2 : SlotOk T2 NX NG := ⟨rfl, fun _ => rfl, fun _ => rfl, by decide, by decide⟩
theorem slot_ok3 : SlotOk T3 NX NG := ⟨rfl, fun _ => rfl, fun _ => rfl, by decide, by decide⟩

/-- The task, between what it is given and what it brings back. -/
theorem tile_body (O : CellTallies nD τ sig (HIx 1)) (W : Waits sig (HIx 1)) (hO : ∀ g, O g none = 0) :
    iprop(levAts (K (F := F)).L (K (F := F)).lev ∗ emp ∗ goW I d (wf i) ∗ scopedBufs (thr d i) ∗ scopedSems0 (thr d i) ∗ owes (thr d i) O W)
      ⊢ wp frame (wpE (defs₀ (F := F)) 𝒱₀ (thr d i) none) Set.univ
          (cc1_norm i AA.x (Memref.isWhole_whole _) lst (Memref.isWhole_whole _) AA.tm (Memref.isWhole_whole _) AA.tr (Memref.isWhole_whole _) AA.out (Memref.isWhole_whole _)
            T0.xv T0.hx T1.xv T1.hx T2.xv T2.hx T3.xv T3.hx T0.mv T0.hm T1.mv T1.hm T2.mv T2.hm T3.mv T3.hm T0.rv T0.hr T1.rv T1.hr T2.rv T2.hr T3.rv T3.hr
            (Memref.whole cc1_scratch12) (Memref.isWhole_whole _) (Memref.whole cc1_scratch13) (Memref.isWhole_whole _) AA.idx (Memref.isWhole_whole _)
            cc1_scratch15 cc1_scratch16 cc1_scratch17 cc1_scratch18 cc1_scratch19 cc1_scratch20 cc1_scratch21 cc1_scratch22 cc1_scratch23 cc1_scratch24 cc1_scoped0)
          fun _ => iprop(tdW I d (wf i) ∗ scopedBufs (thr d i) ∗ scopedSems0 (thr d i) ∗ ∃ W', ⌜∀ p ∈ W', p ∈ W ∨ p.2 = none⌝ ∗ owes (thr d i) O W') := by
  rw [cc1_norm_eq, (K (F := F)).scopedBufs_V facts d ((i 0).castLE hcore1) ((i 1).castLE hsub1),
    SparseCore.Cfg.scopedSems0_V (Val := Elt F) d ((i 0).castLE hcore1) ((i 1).castLE hsub1)]
  unfold goW tdW
  iintro ⟨#Hlv, -, ⟨Ht, Ho⟩, Hb, Hs, HO⟩
  ihave Hmw := (show levAts (K (F := F)).L (K (F := F)).lev ⊢ Transfers.MayWaits (thr d i) (none : HIx 1) O from
    (K (F := F)).mayWaits_none (thr := thr d i) hO) $$ Hlv
  ihave Hown := (own_eq (F := F) d i).1 $$ [Hb Hs]
  · isplitl [Hb]; · iexact Hb
    iexact Hs
  icases Hown with ⟨Hown, Hrb, Hrs⟩
  ihave Ht := (takes_held I d i).1 $$ Ht
  icases Ht with ⟨HR, HL⟩
  ihave Ho := (show (bigSep Finset.univ fun j : Fin 64 => iprop(∃ f : Buf (Elt F) (oLoc d), oLoc d ↦[oSet (chunk (wf i) j)]{fullShare} f) : sProp 𝕄)
      ⊢ bigSep Finset.univ fun j : Fin 64 => some_ (thr d i) (outAt AA (I.vals (wf i)).w j.val (I.vals (wf i)).hw j.isLt) from bigSep_mono fun j _ => some_chunk I d i j) $$ Ho
  iapply wp_wand $$ [Hmw HR HL Hown Ho HO]
  · iapply (task_wp (I.vals (wf i)) EC (none : HIx 1) 𝒱₀ d i none AA T0 T1 T2 T3 NX NG NO NL (Memref.whole cc1_scratch12) (Memref.whole cc1_scratch13)
      (Memref.isWhole_whole _) (Memref.isWhole_whole _) cc1_scratch23 cc1_scratch24 cc1_scoped0 lst (Memref.isWhole_whole _)
      slot_ok0 slot_ok1 slot_ok2 slot_ok3 (by decide) (by decide) (fun _ _ => rfl) (by decide) rfl (by decide) rfl (sh (wf i)) (sh (wf i)) (sh (wf i)) fullShare O W)
    isplitl [Hmw]; · iexact Hmw
    isplitl [HR]; · iexact HR
    isplitl [HL]; · iexact HL
    isplitl [Hown]; · iexact Hown
    isplitl [Ho]; · iexact Ho
    iexists W; isplitr
    · ipureintro; exact fun p hp => .inl hp
    iexact HO
  iintro %_ ⟨HR, HL, Hown, Ho, HO⟩
  isplitl [HR HL Ho]
  · isplitl [HR HL]
    · iapply (takes_held I d i).2
      isplitl [HR]; · iexact HR
      iexact HL
    iapply (show (bigSep Finset.univ fun j : Fin 64 => Done (I.vals (wf i)) d i AA j.val j.isLt : sProp 𝕄)
      ⊢ bigSep Finset.univ fun j : Fin 64 => (oLoc d ↦[oSet (chunk (wf i) j)]{fullShare} I.out) from bigSep_mono fun j _ => done_chunk I d i j)
    iexact Ho
  ihave Hown := (own_eq (F := F) d i).2 $$ [Hown Hrb Hrs]
  · isplitl [Hown]; · iexact Hown
    isplitl [Hrb]; · iexact Hrb
    iexact Hrs
  icases Hown with ⟨Hb, Hs⟩
  isplitl [Hb]; · iexact Hb
  isplitl [Hs]; · iexact Hs
  iexact HO

/-! ## The launch's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_norm (coordsV c s)
          AA.x (Memref.isWhole_whole _) lst (Memref.isWhole_whole _) AA.tm (Memref.isWhole_whole _) AA.tr (Memref.isWhole_whole _) AA.out (Memref.isWhole_whole _)
          T0.xv T0.hx T1.xv T1.hx T2.xv T2.hx T3.xv T3.hx T0.mv T0.hm T1.mv T1.hm T2.mv T2.hm T3.mv T3.hm T0.rv T0.hr T1.rv T1.hr T2.rv T2.hr T3.rv T3.hr
          (Memref.whole cc1_scratch12) (Memref.isWhole_whole _) (Memref.whole cc1_scratch13) (Memref.isWhole_whole _) AA.idx (Memref.isWhole_whole _)
          cc1_scratch15 cc1_scratch16 cc1_scratch17 cc1_scratch18 cc1_scratch19 cc1_scratch20 cc1_scratch21 cc1_scratch22 cc1_scratch23 cc1_scratch24 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of a tile. -/
theorem tileObl (I : Dev nD → Inp F) : (K (F := F)).TileObl (D (F := F)) 𝒱 (P I) v₀ 0 := by
  intro d c i O W hO _ _
  simp only [show (P I).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (I d) d (coordsV ⟨_, hci.1⟩ ⟨_, hci.2⟩) O W hO).trans (wp_mono frame _ _ fun _ => obl_post)

end Cert.Proof
-- ==== Proof.Main.lean ====
/-
  `@main` on the TensorCore: the reciprocals, the host's operations, the SparseCore call.
-/
module

public import proofs.«01_k».proof.Proof.Recip
public import proofs.«01_k».proof.Proof.Host
public import proofs.«01_k».proof.Proof.Body

@[expose] public section

noncomputable section

namespace Cert.Proof

open Cert.KernelIdeal Cert.KernelIdeal.Gen Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch's ghost state -/

/-- The handshakes' cells and tokens, the first call's, no counter. -/
def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

/-- What the first call starts from on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem no_gifts (s : Finset (Thread nD τ)) : (bigSep s fun _ => iprop(emp)) = (iprop(emp) : sProp 𝕄) := bigSep_emp_const s

theorem by_dev : (iprop((bigSep Finset.univ fun d : Dev nD => bigSep Finset.univ fun p : Fin 1 => Pipeline.cellsGhost (Pipeline.pin (pcfgs (F := F)) adm) EP p d)
      ∗ (bigSep Finset.univ fun d : Dev nD => bigSep Finset.univ fun p : Fin 1 => Pipeline.toksInit (Pipeline.pin (pcfgs (F := F)) adm) EP p d)) : sProp 𝕄)
    = bigSep Finset.univ fun d : Dev nD => G (F := F) d := by
  rw [← bigSep_sep']
  exact bigSep_congr fun d _ => congrArg₂ (fun a b => iprop(a ∗ b)) (bigSep_univ_of_subsingleton (0 : Fin 1)) (bigSep_univ_of_subsingleton (0 : Fin 1))

theorem hu₀ (I : Dev nD → Inp F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P I).x q thr) := by
  unfold u₀
  iintro Hu
  ihave H := (ownU_pair (initOf (K (F := F)).hsCells (K (F := F)).hsToks) _) $$ Hu
  icases H with ⟨HH, Hr⟩
  ihave H := (own_pair_emb embR _ _) $$ Hr
  icases H with ⟨HP, -⟩
  imod (Pipeline.fund_ghost (nD := nD) (Pipeline.pin (pcfgs (F := F)) adm) (EP : Emb UP 𝕄) cellOf_inj) $$ HP with ⟨Hg, Ht⟩
  imodintro
  isplitl [HH]; · iexact HH
  isplitl [Hg Ht]
  · rw [← by_dev]; isplitl [Hg] <;> iassumption
  rw [show (bigSep Finset.univ fun thr : Thread nD τ => bigSep Finset.univ fun q : Fin 1 => (P I).x q thr) = bigSep Finset.univ fun _ => iprop(emp) from
    bigSep_congr fun _ _ => bigSep_univ_of_subsingleton (0 : Fin 1), no_gifts]
  iempintro

/-! ## The first call -/

variable (m : (ℓ : Loc nD τ sig) → Buf (Elt F) ℓ) (ρ : Dev nD → PrngReg)

/-- Device `d`'s buffers at launch. -/
abbrev V₀ (d : Dev nD) : Valuation τ sig (Elt F) := fun b => m (d, b)

theorem recip_wp [∀ e, Nonempty (Elt F e)] (d : Dev nD) (Q : PUnit → sProp 𝕄) :
    iprop((iprop(boundary (SparseCore.T d) ∗ (reg0 (V₀ m)).post d) -∗ Q ⟨⟩)
        ∗ boundary (SparseCore.T d) ∗ (reg0 (V₀ m)).pre d ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  have hw := Pipeline.RegionSeg.wp (pcfgs (F := F)) adm (pdats (V₀ m)) none cellOf_inj EP defs₀ 𝒱₀ (K (F := F)).L (K (F := F)).lev (reg0 (V₀ m)) d none
    (fun _ h => nomatch h) (fun _ => .ret ⟨⟩) Q
  have hl := (K (F := F)).wp_liftProg (D (F := F)) 𝒱 (SparseCore.T d) Set.univ none (.op (.customCall (Pipeline.entry 0) ()) fun _ => .ret ⟨⟩) Q
  iintro ⟨Hk, Hb, Hp, Hl, Hg, Ht⟩
  iapply (hw.trans hl)
  isplitl [Hk]
  · iintro H
    rw [wp_ret]
    imodintro
    iapply Hk; iexact H
  isplitl [Hb]; · iexact Hb
  isplitl [Hp]; · iexact Hp
  isplitl [Hl]; · iexact Hl
  isplitl [Hg] <;> iassumption

/-! ## The handshake's dues apart -/

theorem tcSt_open (d : Dev nD) : ((K (F := F)).tcSt EH d 0 : sProp 𝕄)
    ⊢ iprop((∃ W, ⌜low (F := F) d W⌝ ∗ owes (d : Thread nD τ) (owedT (F := F) d) W)
        ∗ ((∃ W, ⌜low (F := F) d W⌝ ∗ owes (d : Thread nD τ) (owedT (F := F) d) W) -∗ (K (F := F)).tcSt EH d 0)) := by
  unfold SparseCore.Cfg.tcSt
  iintro ⟨HO, H⟩
  isplitl [HO]; · iexact HO
  iintro HO
  isplitl [HO]; · iexact HO
  iexact H

/-! ## The buffers -/

/-- Device `d`'s buffers, one by one: those a run reads or writes first. -/
theorem buffers_eq (d : Dev nD) (W : Valuation τ sig (Elt F)) :
    (StableHlo.held (SparseCore.T d) (Pipeline.ucRefs τ sig) W : sProp 𝕄)
      ⊢ iprop(((xLoc d ↦{fullShare} W (Proc.devRef .tc main_arg0)) ∗ (mLoc d ↦{fullShare} W (Proc.devRef .tc main_v10)) ∗ (rLoc d ↦{fullShare} W (Proc.devRef .tc main_v11))
          ∗ (lLoc d ↦{fullShare} W (Proc.devRef .tc main_v9)) ∗ (oLoc d ↦{fullShare} W (Proc.devRef .tc main_v12)))
        ∗ ((SparseCore.T d).loc main_arg1 ↦{fullShare} W (Proc.devRef .tc main_arg1)) ∗ ((SparseCore.T d).loc main_arg2 ↦{fullShare} W (Proc.devRef .tc main_arg2))
        ∗ ((SparseCore.T d).loc main_arg3 ↦{fullShare} W (Proc.devRef .tc main_arg3))) := by
  unfold StableHlo.held
  rw [SparseCore.bigSep_sdiff_split' (s := Pipeline.ucRefs τ sig) (t := ({Proc.devRef .tc main_arg0, Proc.devRef .tc main_v10, Proc.devRef .tc main_v11, Proc.devRef .tc main_v9,
      Proc.devRef .tc main_v12, Proc.devRef .tc main_arg1, Proc.devRef .tc main_arg2, Proc.devRef .tc main_arg3} : Finset (DevRef τ sig))) (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  iintro ⟨⟨H0, Hm, Hr, Hl, Ho, H1, H2, H3⟩, -⟩
  isplitl [H0 Hm Hr Hl Ho]
  · isplitl [H0]; · iexact H0
    isplitl [Hm]; · iexact Hm
    isplitl [Hr]; · iexact Hr
    isplitl [Hl]; · iexact Hl
    iexact Ho
  isplitl [H1]; · iexact H1
  isplitl [H2]; · iexact H2
  iexact H3

/-- That every index names a table's row. -/
def PreOK : Prop := ∀ (d : Dev nD) (n : S16384.Idx), ((m ((SparseCore.T d).loc main_arg1) : S16384.Idx → BitVec 32) n).toNat < 64

theorem inRange (hm : PreOK m) (d : Dev nD) : InRange (afterRecip (V₀ m) d) := fun n => by
  rw [show afterRecip (V₀ m) d (Proc.devRef .tc main_arg1) = V₀ m d (Proc.devRef .tc main_arg1) from Function.update_of_ne (by decide) _ _]
  exact hm d n

/-- What the SparseCore call reads on device `d`. -/
abbrev inp (hm : PreOK m) (d : Dev nD) : Inp F := inputs (inRange m hm d)

/-- What the program writes. -/
def outOf (hm : PreOK m) (d : Dev nD) : S16384x1024.Idx → Elt F .f32 := (inp m hm d).out

/-- What a run leaves on device `d`: the arguments, and the result. -/
abbrev FIN (hm : PreOK m) (d : Dev nD) : sProp 𝕄 :=
  iprop((xLoc d ↦{fullShare} m (xLoc d)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ (oLoc d ↦{fullShare} outOf m hm d))

/-- The buffers after the host's operations: the SparseCore call's operands, and the arguments as at launch. -/
theorem buffers_at (hm : PreOK m) (d : Dev nD) :
    (StableHlo.held (SparseCore.T d) (Pipeline.ucRefs τ sig) (StableHlo.after ops (afterRecip (V₀ m) d)) : sProp 𝕄)
      ⊢ iprop(((xLoc d ↦{fullShare} (inp m hm d).X) ∗ (mLoc d ↦{fullShare} (inp m hm d).M) ∗ (rLoc d ↦{fullShare} (inp m hm d).R)
          ∗ (lLoc d ↦{fullShare} (inp m hm d).L) ∗ (oLoc d ↦{fullShare} StableHlo.after ops (afterRecip (V₀ m) d) (Proc.devRef .tc main_v12)))
        ∗ ((SparseCore.T d).loc main_arg1 ↦{fullShare} m ((SparseCore.T d).loc main_arg1)) ∗ ((SparseCore.T d).loc main_arg2 ↦{fullShare} m ((SparseCore.T d).loc main_arg2))
        ∗ ((SparseCore.T d).loc main_arg3 ↦{fullShare} m ((SparseCore.T d).loc main_arg3))) := by
  refine (buffers_eq d _).trans ?_
  rw [after_arg0, after_arg1, after_arg2, after_arg3,
    show afterRecip (V₀ m) d (Proc.devRef .tc main_arg1) = m ((SparseCore.T d).loc main_arg1) from Function.update_of_ne (by decide) _ _,
    show afterRecip (V₀ m) d (Proc.devRef .tc main_arg2) = m ((SparseCore.T d).loc main_arg2) from Function.update_of_ne (by decide) _ _,
    show afterRecip (V₀ m) d (Proc.devRef .tc main_arg3) = m ((SparseCore.T d).loc main_arg3) from Function.update_of_ne (by decide) _ _]
  exact .rfl

/-- What the first call is entered with and left with. -/
theorem pre_eq (d : Dev nD) : (reg0 (V₀ m)).pre d
    = iprop(unscopedBufs d (fun b => m ((SparseCore.T d).loc b)) ∗ ∃ W, ⌜low (F := F) d W⌝ ∗ owes (d : Thread nD τ) (owedT (F := F) d) W) := rfl
theorem post_eq (d : Dev nD) : (reg0 (V₀ m)).post d
    = iprop(StableHlo.held (SparseCore.T d) (Pipeline.ucRefs τ sig) (afterRecip (V₀ m) d) ∗ ∃ W, ⌜low (F := F) d W⌝ ∗ owes (d : Thread nD τ) (owedT (F := F) d) W) := by
  rw [← Pipeline.unscopedBufs_held]; rfl

theorem ops_sub : ∀ op ∈ (ops : List (HloOp τ sig (Elt F))), op.bufs ⊆ Pipeline.ucRefs τ sig := by
  intro op h
  refine Pipeline.sub_ucRefs op ?_
  unfold ops at h
  simp only [List.mem_cons, List.not_mem_nil, or_false] at h
  rcases h with rfl | rfl | rfl | rfl | rfl | rfl | rfl | rfl | rfl | rfl | rfl | rfl <;> simp only [StableHlo.nullary_bufs_sub, StableHlo.unary_bufs_sub, StableHlo.binary_bufs_sub, StableHlo.reshape_bufs_sub]

theorem ops_fresh : ∀ op ∈ (ops : List (HloOp τ sig (Elt F))), op.fresh = ∅ := by
  intro op h
  unfold ops at h
  simp only [List.mem_cons, List.not_mem_nil, or_false] at h
  rcases h with rfl | rfl | rfl | rfl | rfl | rfl | rfl | rfl | rfl | rfl | rfl | rfl <;> rfl

/-- `@main` on device `d`'s TensorCore. -/
theorem hmain [∀ e, Nonempty (Elt F e)] (hm : PreOK m) (κ : GSem nD τ sig → ℕ) (d : Dev nD) :
    iprop((K (F := F)).ctx EH (P (inp m hm)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [main_eq, wp_bind]
  iintro ⟨#Hctx, Hst, ⟨Hb, Hu, Hts, -⟩, Hg⟩
  ihave #Hlev := ((K (F := F)).ctx_levAts κ) $$ Hctx
  ihave H := (tcSt_open d) $$ Hst
  icases H with ⟨HO, Hst⟩
  iapply (recip_wp m d)
  isplitr [Hb Hu HO Hg]
  · iintro ⟨Hb, Hpost⟩
    ihave Hp := (Entails.of_eq (post_eq m d)) $$ Hpost
    icases Hp with ⟨Hu, HO⟩
    ihave Hst := Hst $$ HO
    iapply (StableHlo.wp_seq 𝒱 none Set.univ d (Pipeline.ucRefs τ sig) _ ops ops_sub ops_fresh (afterRecip (V₀ m) d)) $$ [Hb Hu]
    · isplitl [Hb]; · iexact Hb
      iexact Hu
    iintro ⟨Hb, Hu⟩
    ihave H := (buffers_at m hm d) $$ Hu
    icases H with ⟨⟨H0, Hm, Hr, Hl, Ho⟩, H1, H2, H3⟩
    rw [wp_bind]
    iapply ((K (F := F)).wp_run (D (F := F)) 𝒱 (EH := EH) (P := P (inp m hm)) κ d 0)
    isplitr; · iexact Hctx
    isplitl [Hst]; · iexact Hst
    isplitl [H0 Hm Hr Hl Ho]
    · iapply (st_all (inp m hm) d _)
      isplitl [H0]; · iexact H0
      isplitl [Hm]; · iexact Hm
      isplitl [Hr]; · iexact Hr
      isplitl [Hl]; · iexact Hl
      iexact Ho
    iintro ⟨Hst, Hdn⟩
    ihave H := (Entails.of_eq (dn_all (inp m hm) d)) $$ Hdn
    icases H with ⟨⟨H0, -⟩, Ho⟩
    rw [wp_pure]
    imodintro
    isplitl [Hst]; · iexact Hst
    isplitr [Hb Hts]
    · isplitl [H0]; · iexact H0
      isplitl [H1]; · iexact H1
      isplitl [H2]; · iexact H2
      isplitl [H3]; · iexact H3
      iexact Ho
    isplitl [Hb] <;> iassumption
  isplitl [Hb]; · iexact Hb
  isplitl [Hu HO]
  · rw [pre_eq]
    isplitl [Hu]; · iexact Hu
    iexact HO
  isplitr; · iexact Hlev
  iexact Hg

/-! ## The run -/

/-- What is read of a final memory on device `d`. -/
def fq (hm : PreOK m) (d : Dev nD) (s' : Phys nD τ sig (Elt F)) : Prop :=
  s'.mem.mem (xLoc d) = m (xLoc d) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem (oLoc d) = outOf m hm d

/-- A buffer held whole at `f` holds `f` in the memory. -/
theorem reads (s' : Phys nD τ sig (Elt F)) (ℓ : Loc nD τ sig) (f : Buf (Elt F) ℓ) :
    iprop(SI s' ∗ (ℓ ↦{fullShare} f : sProp 𝕄)) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

theorem hfin (hm : PreOK m) (d : Dev nD) (s' : Phys nD τ sig (Elt F)) : iprop(FIN m hm d ∗ SI s') ⊢ (⌜fq m hm d s'⌝ : sProp 𝕄) := by
  iintro ⟨⟨H0, H1, H2, H3, Ho⟩, HS⟩
  ihave H := (reads s' _ _) $$ [HS H0]; · isplitl [HS] <;> iassumption
  icases H with ⟨%h0, HS⟩
  ihave H := (reads s' _ _) $$ [HS H1]; · isplitl [HS] <;> iassumption
  icases H with ⟨%h1, HS⟩
  ihave H := (reads s' _ _) $$ [HS H2]; · isplitl [HS] <;> iassumption
  icases H with ⟨%h2, HS⟩
  ihave H := (reads s' _ _) $$ [HS H3]; · isplitl [HS] <;> iassumption
  icases H with ⟨%h3, HS⟩
  ihave H := (reads s' _ _) $$ [HS Ho]; · isplitl [HS] <;> iassumption
  icases H with ⟨%h4, -⟩
  ipureintro; exact ⟨h0, h1, h2, h3, h4⟩

/-- Every run of the program from an index array in range ends with the arguments as they were, the result written, and every
    semaphore at zero. -/
theorem run_main [∀ e, Nonempty (Elt F e)] (hm : PreOK m) :
    θ_run (Cert.KernelIdeal.defs (F := F)) (Cert.KernelIdeal.threads (F := F)) ⟨m, fun _ => 0, ρ⟩
      (fun r => (∀ d : Dev nD, r.2.mem (xLoc d) = m (xLoc d) ∧ r.2.mem ((SparseCore.T d).loc main_arg1) = m ((SparseCore.T d).loc main_arg1)
        ∧ r.2.mem ((SparseCore.T d).loc main_arg2) = m ((SparseCore.T d).loc main_arg2) ∧ r.2.mem ((SparseCore.T d).loc main_arg3) = m ((SparseCore.T d).loc main_arg3)
        ∧ r.2.mem (oLoc d) = outOf m hm d) ∧ r.2.sem = fun _ => 0) :=
  SparseCore.Cfg.θ_run_sc_quiescent (K := K (F := F)) (D := D (F := F)) (𝒱 := 𝒱) (EH := EH) (P := P (inp m hm)) (A := ∅) facts v₀
    (fun q hq => match q with | 0 => nomatch hq)
    (fun q _ => match q with | 0 => tileObl (inp m hm))
    (fun q _ => match q with | 0 => SparseCore.Cfg.VecSplit.of_plain (vecSplit (inp m hm)))
    m ρ main (G (F := F)) (FIN m hm) (u₀ (F := F)) (sep_elim_left.trans (hu₀ (inp m hm))) (hmain m ρ hm) (fq m hm) (hfin m hm) _ (fun _ h hz => ⟨h, hz⟩)

end Cert.Proof
-- ==== Proof.Frames.lean ====
/-
  The kernel's frames: the index array in range from the precondition, and the run's.
-/
module

public import proofs.«01_k».proof.Defs
public import proofs.«01_k».proof.Proof.Main
public import proofs.«01_k».proof.Proof.Gen.Kernel
public import proofs.«01_k».proof.Proof.Gen.Pre_in_range
public import Idealize.ShloMosaic.Lib.ReduceAll

@[expose] public section

noncomputable section

namespace Cert.Proof

open Idealize.ShloMosaic
open Idealize.SL.Sem

/-- A word that is at least 0 and below 64, read with its sign, is a number below 64. -/
theorem word_lt (v : BitVec 32) (e : IntOp.andi (IntOp.cmpi .sge v 0#32) (IntOp.cmpi .slt v 64#32) = 1#1) : v.toNat < 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition's function is all ones only where every index is a table's row. -/
theorem lt_of_fn {F : FTy → Type} [FloatOps F] (a0 : FVec F Pre_in_range.S16384x1024 .f32) (a1 : IVec Pre_in_range.S16384 32)
    (a2 a3 : FVec F Pre_in_range.S64x1024 .f32) (h : Pre_in_range.fn a0 a1 a2 a3 = fun _ => 1#1) (n : Pre_in_range.S16384.Idx) : (a1 n).toNat < 64 := by
  have e := congrFun h (fun a => nomatch a)
  simp only [Pre_in_range.fn] at e
  have e' := Host.reduce_andi_all _ _ _ _ _ e n
  simp only [andi, cmpi, broadcastInDim, constantI] at e'
  exact word_lt _ e'

theorem ok_ideal (m) (h : Cert.Pre_KernelIdeal m) : PreOK (F := Ideal) m := fun d n => lt_of_fn _ _ _ _ (h d) n
theorem ok_bits (m) (h : Cert.Pre_Kernel m) : PreOK (F := Bits) m := fun d n => lt_of_fn _ _ _ _ (h d) n

theorem frame_kernelIdeal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩) (run_main (F := Ideal) m ρ (ok_ideal m hpre))

/-- The run at bits, the result aside. -/
theorem run_bits (m) (ρ) (hpre : PreOK (F := Bits) m) :
    θ_run (Cert.KernelIdeal.defs (F := Bits)) (Cert.KernelIdeal.threads (F := Bits)) ⟨m, fun _ => 0, ρ⟩
      (fun r => (∀ d : Dev Cert.KernelIdeal.nD, r.2.mem (xLoc d) = m (xLoc d) ∧ r.2.mem ((SparseCore.T d).loc Cert.KernelIdeal.main_arg1) = m ((SparseCore.T d).loc Cert.KernelIdeal.main_arg1)
        ∧ r.2.mem ((SparseCore.T d).loc Cert.KernelIdeal.main_arg2) = m ((SparseCore.T d).loc Cert.KernelIdeal.main_arg2) ∧ r.2.mem ((SparseCore.T d).loc Cert.KernelIdeal.main_arg3) = m ((SparseCore.T d).loc Cert.KernelIdeal.main_arg3))
        ∧ r.2.sem = fun _ => 0) :=
  (θ_run Cert.KernelIdeal.defs _ _).mono (fun _ h => ⟨fun c => ⟨(h.1 c).1, (h.1 c).2.1, (h.1 c).2.2.1, (h.1 c).2.2.2.1⟩, h.2⟩) (run_main (F := Bits) m ρ hpre)

set_option maxRecDepth 100000 in
/-- The two programs' kernels are the same. -/
theorem bodies_eq : ∀ (p : Proc Cert.KernelIdeal.τ) (ℓ : Cert.KernelIdeal.Λ₀.Label) (a : Cert.KernelIdeal.Λ₀.Args ℓ),
    Cert.KernelIdeal.defs₀ (F := Bits) p ℓ a = Cert.Kernel.defs₀ (F := Bits) p ℓ a
  | .tc, ⟨0, _⟩, (t, s) => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

set_option maxRecDepth 100000 in
theorem defs_eq : Cert.KernelIdeal.defs (F := Bits) = Cert.Kernel.defs (F := Bits) := by
  have h : Cert.KernelIdeal.defs₀ (F := Bits) = Cert.Kernel.defs₀ (F := Bits) := funext fun p => funext fun ℓ => funext fun a => bodies_eq p ℓ a
  show (Cert.KernelIdeal.sc (F := Bits)).defs (Pipeline.defs Cert.KernelIdeal.pcfgs Cert.KernelIdeal.defs₀) = _
  rw [h]
  rfl

set_option maxRecDepth 100000 in
theorem frame_kernel : Cert.quiescent_Kernel := fun m ρ hpre => by
  have h := run_bits m ρ (ok_bits m hpre)
  rw [defs_eq] at h
  exact h

end Cert.Proof
-- ==== Proof.Ref.lean ====
/-
  The reference's run: its operations in order, and what each buffer ends at.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Reference

open Idealize.ShloMosaic Idealize.ShloMosaic.TcCoe Idealize.ShloMosaic.StableHlo Idealize.SL.Sem
open Cert.ReferenceIdeal Cert.ReferenceIdeal.Gen

variable {F : FTy → Type} [FloatOps F]

/-- The operations of one lookup of a table's rows: a negative index counted from the table's end, the rows gathered, and
    a row whose index names none replaced. -/
abbrev takeOps (arg0 : TRef sig ⟨S64x1024, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 64#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 63#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S64x1024_S16384x1_S16384x1024_1_0_n_n_0_1_11024 x i),
    TRef.unary φ.v12 φ.v14 (broadcastInDim S16384x1024 ![0] bcast_S16384_S16384x1024_0),
    TRef.nullary φ.cst (constant S_ .f32 0x7FC00000#32),
    TRef.unary φ.cst φ.v15 (broadcastInDim S16384x1024 ![] bcast_S_S16384x1024),
    TRef.ternary φ.v14 φ.v13 φ.v15 φ.v16 select ]

/-- The two lookups, then the difference, the sum with the small constant and the quotient. -/
abbrev refOps : List (HloOp τ sig (Elt F)) :=
  takeOps (.of main_arg2) (.of main_arg1) main_call0 ++ takeOps (.of main_arg3) (.of main_arg1) main_call1 ++
  [ binary main_arg0 main_v0 main_v2 subf,
    nullary main_cst (constant S_ .f32 0x3727C5AC#32),
    unary main_cst main_v3 (broadcastInDim S16384x1024 ![] bcast_S_S16384x1024),
    binary main_v1 main_v3 main_v4 addf,
    binary main_v2 main_v4 main_v5 Host.divf ]

set_option maxRecDepth 4096 in
/-- The reference's program is those operations in order. -/
theorem main_eq (c : Dev nD) : main (F := F) c = seq refOps := by
  simp only [main, fn_take.body, fn_where.body, refOps, takeOps, List.cons_append, List.nil_append, seq, bind_assoc, pure_bind]

/-- The indices as the lookup uses them: one below zero counted from the table's end, in a column. -/
abbrev place (a1 : IVec S16384 32) : IVec S16384x1 32 :=
  broadcastInDim S16384x1 ![0] bcast_S16384_S16384x1_0
    (select (cmpi .slt a1 (broadcastInDim S16384 ![] bcast_S_S16384 (constantI S_ 32 0#32)))
      (addi a1 (broadcastInDim S16384 ![] bcast_S_S16384 (constantI S_ 32 64#32))) a1)

/-- Where an index names a row. -/
abbrev named (a1 : IVec S16384 32) : IVec S16384 1 :=
  Host.reduce IntOp.andi
    (andi (cmpi .sge (place a1) (broadcastInDim S16384x1 ![] bcast_S_S16384x1 (constantI S_ 32 0#32)))
      (cmpi .sle (place a1) (broadcastInDim S16384x1 ![0, 1] bcast_S1x1_S16384x1_0_1
        (broadcastInDim S1x1 ![1] bcast_S1_S1x1_1 (constantI S1 32 63#32)))))
    (constantI S_ 1 1#1) reducesTo_S16384x1_S16384_d1 h_S_

/-- The rows a lookup returns. -/
abbrev taken (t : FVec F S64x1024 .f32) (a1 : IVec S16384 32) : FVec F S16384x1024 .f32 :=
  select (broadcastInDim S16384x1024 ![0] bcast_S16384_S16384x1024_0 (named a1))
    (Host.gather gather_S64x1024_S16384x1_S16384x1024_1_0_n_n_0_1_11024 t (place a1))
    (broadcastInDim S16384x1024 ![] bcast_S_S16384x1024 (constant S_ .f32 0x7FC00000#32))

/-- What the reference returns. -/
def value (a0 : FVec F S16384x1024 .f32) (a1 : IVec S16384 32) (a2 a3 : FVec F S64x1024 .f32) : FVec F S16384x1024 .f32 :=
  Host.divf (subf a0 (taken a2 a1))
    (addf (taken a3 a1) (broadcastInDim S16384x1024 ![] bcast_S_S16384x1024 (constant S_ .f32 0x3727C5AC#32)))

set_option maxRecDepth 100000 in
/-- The result buffer ends at that. -/
theorem out_eq (V : Valuation τ sig (Elt F)) :
    after refOps V (main_v5 : DevRef τ sig)
      = value (V (main_arg0 : DevRef τ sig)) (V (main_arg1 : DevRef τ sig)) (V (main_arg2 : DevRef τ sig)) (V (main_arg3 : DevRef τ sig)) := by
  simp only [refOps, takeOps, List.cons_append, List.nil_append]
  after_results_simp
  rfl

theorem arg0_eq (V : Valuation τ sig (Elt F)) : after refOps V (main_arg0 : DevRef τ sig) = V (main_arg0 : DevRef τ sig) := by
  simp only [refOps, takeOps, List.cons_append, List.nil_append, after_cons, after_nil]
  rfl

theorem arg1_eq (V : Valuation τ sig (Elt F)) : after refOps V (main_arg1 : DevRef τ sig) = V (main_arg1 : DevRef τ sig) := by
  simp only [refOps, takeOps, List.cons_append, List.nil_append, after_cons, after_nil]
  rfl

theorem arg2_eq (V : Valuation τ sig (Elt F)) : after refOps V (main_arg2 : DevRef τ sig) = V (main_arg2 : DevRef τ sig) := by
  simp only [refOps, takeOps, List.cons_append, List.nil_append, after_cons, after_nil]
  rfl

theorem arg3_eq (V : Valuation τ sig (Elt F)) : after refOps V (main_arg3 : DevRef τ sig) = V (main_arg3 : DevRef τ sig) := by
  simp only [refOps, takeOps, List.cons_append, List.nil_append, after_cons, after_nil]
  rfl

theorem takeOps_sub (arg0 : TRef sig ⟨S64x1024, .f32⟩) (arg1 : TRef sig ⟨S16384, .i32⟩) (φ : fn_take.Bufs) :
    ∀ op ∈ (takeOps arg0 arg1 φ : List (HloOp τ sig (Elt F))), op.bufs ⊆ tcRefs τ sig ∧ op.fresh = ∅ := by
  simp only [List.forall_mem_cons]
  exact ⟨⟨nullary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨ternary_bufs_sub .., rfl⟩, ⟨unary_bufs_sub .., rfl⟩,
    ⟨nullary_bufs_sub .., rfl⟩, ⟨nullary_bufs_sub .., rfl⟩, ⟨unary_bufs_sub .., rfl⟩, ⟨binary_bufs_sub .., rfl⟩,
    ⟨unary_bufs_sub .., rfl⟩, ⟨unary_bufs_sub .., rfl⟩, ⟨binary_bufs_sub .., rfl⟩, ⟨binary_bufs_sub .., rfl⟩,
    ⟨nullary_bufs_sub .., rfl⟩, ⟨binary_bufs_sub .., rfl⟩, ⟨binary_bufs_sub .., rfl⟩, ⟨unary_bufs_sub .., rfl⟩,
    ⟨nullary_bufs_sub .., rfl⟩, ⟨unary_bufs_sub .., rfl⟩, ⟨ternary_bufs_sub .., rfl⟩, fun _ h => nomatch h⟩

theorem ops_sub : ∀ op ∈ (refOps : List (HloOp τ sig (Elt F))), op.bufs ⊆ tcRefs τ sig ∧ op.fresh = ∅ := by
  refine List.forall_mem_append.2 ⟨List.forall_mem_append.2 ⟨takeOps_sub _ _ _, takeOps_sub _ _ _⟩, ?_⟩
  simp only [List.forall_mem_cons]
  exact ⟨⟨binary_bufs_sub .., rfl⟩, ⟨nullary_bufs_sub .., rfl⟩, ⟨unary_bufs_sub .., rfl⟩,
    ⟨binary_bufs_sub .., rfl⟩, ⟨binary_bufs_sub .., rfl⟩, fun _ h => nomatch h⟩

/-- From any memory with zero counters the reference ends, each buffer at what its operations leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (b : DevRef τ sig) :=
  run_seq (by decide) (by decide) defs main (fun _ => refOps) main_eq
    (fun _ => List.forall_iff_forall_mem.2 fun op h => (ops_sub op h).1) m ρ (fun _ op h => (ops_sub op h).2)

end Cert.Proof.Reference

end
-- ==== Proof.RefValue.lean ====
/-
  The reference's result at an element, the indices in range.
-/
module

public import proofs.«01_k».proof.Proof.Ref
public import Idealize.ShloMosaic.Lib.ReduceAll
public import Idealize.ShloMosaic.Lib.Routing.Ops

@[expose] public section

noncomputable section

namespace Cert.Proof.Reference

open Idealize.ShloMosaic Idealize.SL.Sem
open Cert.ReferenceIdeal Cert.ReferenceIdeal.Gen

variable {F : FTy → Type} [FloatOps F]

/-- A word below 64 is not negative. -/
theorem word_slt (v : BitVec 32) (h : v.toNat < 64) : IntOp.cmpi .slt v 0#32 = 0#1 := by
  have e : v.slt 0#32 = false := by
    simp only [BitVec.slt_eq_decide, BitVec.toInt_eq_toNat_cond, BitVec.toNat_ofNat, decide_eq_false_iff_not]
    split <;> omega
  simp only [IntOp.cmpi, e]
  rfl

/-- A word below 64 is at least 0 and at most 63. -/
theorem word_in (v : BitVec 32) (h : v.toNat < 64) : IntOp.andi (IntOp.cmpi .sge v 0#32) (IntOp.cmpi .sle v 63#32) = 1#1 := by
  have e : (0#32).sle v = true := by
    simp only [BitVec.sle_eq_decide, BitVec.toInt_eq_toNat_cond, BitVec.toNat_ofNat, decide_eq_true_eq]
    split <;> omega
  have e' : v.sle 63#32 = true := by
    simp only [BitVec.sle_eq_decide, BitVec.toInt_eq_toNat_cond, BitVec.toNat_ofNat, decide_eq_true_eq]
    split <;> omega
  simp only [IntOp.cmpi, e, e']
  rfl

/-- Indices in range are used as they are. -/
theorem place_at (a1 : IVec S16384 32) (h : ∀ n, (a1 n).toNat < 64) (i : S16384x1.Idx) :
    place a1 i = a1 (ValueIdx.ix1 (i 0)) := by
  have e : ∀ j : S16384.Idx, select (cmpi .slt a1 (broadcastInDim S16384 ![] bcast_S_S16384 (constantI S_ 32 0#32)))
      (addi a1 (broadcastInDim S16384 ![] bcast_S_S16384 (constantI S_ 32 64#32))) a1 j = a1 j := fun j => by
    simp only [select, cmpi, broadcastInDim, constantI, word_slt _ (h j)]
    rfl
  refine (e _).trans (congrArg a1 ?_)
  funext a
  match a with
  | ⟨0, _⟩ => rfl

/-- Every index names a row. -/
theorem named_at (a1 : IVec S16384 32) (h : ∀ n, (a1 n).toNat < 64) (j : S16384.Idx) : named a1 j = 1#1 := by
  refine Host.reduce_andi_one _ _ _ _ j rfl fun i => ?_
  have e := word_in _ (h (ValueIdx.ix1 (i 0)))
  rw [← place_at a1 h i] at e
  exact e

/-- The row an index names. -/
def row (a1 : IVec S16384 32) (h : ∀ n, (a1 n).toNat < 64) (p : S16384x1024.Idx) : S64x1024.Idx :=
  ValueIdx.ix2 ⟨(a1 (ValueIdx.ix1 (p 0))).toNat, h _⟩ (p 1)

/-- A lookup's element is the named row's. -/
theorem taken_at (t : FVec F S64x1024 .f32) (a1 : IVec S16384 32) (h : ∀ n, (a1 n).toNat < 64) (p : S16384x1024.Idx) :
    taken t a1 p = t (row a1 h p) := by
  have e : taken t a1 p = Host.gather gather_S64x1024_S16384x1_S16384x1024_1_0_n_n_0_1_11024 t (place a1) p := by
    have n : broadcastInDim S16384x1024 ![0] bcast_S16384_S16384x1024_0 (named a1) p = 1#1 := named_at a1 h _
    simp only [taken, select, n]
    rfl
  rw [e]
  have hp : p = ValueIdx.ix2 (p 0) (p 1) := by
    funext a
    match a with
    | ⟨0, _⟩ => rfl
    | ⟨1, _⟩ => rfl
  refine (congrArg _ hp).trans ?_
  refine Routing.gather_row _ rfl rfl rfl rfl rfl t (place a1) (p 0) (p 1) ⟨(a1 (ValueIdx.ix1 (p 0))).toNat, h _⟩ ?_ (by decide)
  rw [place_at a1 h]
  show _ = BitVec.ofNat 32 (a1 (ValueIdx.ix1 (p 0))).toNat
  rw [BitVec.ofNat_toNat, BitVec.setWidth_eq]

/-- The reference's element: the difference with the named mean over the named deviation plus the small constant. -/
theorem value_at (a0 : FVec F S16384x1024 .f32) (a1 : IVec S16384 32) (a2 a3 : FVec F S64x1024 .f32) (h : ∀ n, (a1 n).toNat < 64)
    (p : S16384x1024.Idx) :
    value a0 a1 a2 a3 p = FloatOps.hostDivf (FloatOps.subf (a0 p) (a2 (row a1 h p)))
      (FloatOps.addf (a3 (row a1 h p)) (FloatOps.ofBits .f32 0x3727C5AC#32)) := by
  rw [← taken_at a2 a1 h p, ← taken_at a3 a1 h p]
  rfl

end Cert.Proof.Reference

end
-- ==== Proof.Algebra.lean ====
/-
  The kernel's result and the reference's, equal over the extended reals.
-/
module

public import proofs.«01_k».proof.Defs
public import proofs.«01_k».proof.Proof.Frames
public import proofs.«01_k».proof.Proof.RefValue
public import Idealize.ShloMosaic.Lib.IdealHost

@[expose] public section

noncomputable section

namespace Cert.Proof

open Idealize.ShloMosaic
open Idealize.SL.Sem

/-! ## The preconditions -/

/-- The side conditions of the precondition's function. -/
theorem preFacts : Cert.Pre_in_range_nonzero.Facts where
  bcast_S_S16384 := by decide
  reducesTo_S16384_S_d0 := by decide
  h_S_ := by decide
  bcast_S_S64x1024 := by decide
  reducesTo_S64x1024_S_d0_1 := by decide

attribute [instance] preFacts

/-- Both halves of an `and` that is one are one. -/
theorem andi_one (a b : BitVec 1) (e : IntOp.andi a b = 1#1) : a = 1#1 ∧ b = 1#1 := by
  revert a b; decide

/-- What the program divides by: a deviation and the small constant. -/
abbrev divisor (s : EReal) : EReal := s + Ideal.ofBits .f32 0x3727C5AC#32

/-- The precondition's function is all ones only where every index is a table's row and no deviation plus the small
    constant is zero. -/
theorem pre_of_fn (a0 : FVec Ideal Pre_in_range_nonzero.S16384x1024 .f32) (a1 : IVec Pre_in_range_nonzero.S16384 32)
    (a2 a3 : FVec Ideal Pre_in_range_nonzero.S64x1024 .f32) (h : Pre_in_range_nonzero.fn a0 a1 a2 a3 = fun _ => 1#1) :
    (∀ n, (a1 n).toNat < 64) ∧ ∀ p, divisor (a3 p) ≠ 0 := by
  have e := andi_one _ _ (congrFun h (fun a => nomatch a))
  refine ⟨fun n => ?_, fun p => ?_⟩
  · have e' := Host.reduce_andi_all _ _ _ _ _ e.1 n
    simp only [andi, cmpi, broadcastInDim, constantI] at e'
    exact word_lt _ e'
  · have e' := Host.reduce_andi_all _ _ _ _ _ e.2 p
    intro hz
    have z : Ideal.ofBits .f32 0x00000000#32 = 0 := by simp
    have e'' : BitVec.ofBool (decide (divisor (a3 p) ≠ Ideal.ofBits .f32 0x00000000#32)) = 1#1 := e'
    rw [hz, z] at e''
    simp at e''

/-! ## The two values -/

variable (m : (ℓ : Loc Cert.KernelIdeal.nD Cert.KernelIdeal.τ Cert.KernelIdeal.sig) → Buf (Elt Ideal) ℓ)

/-- A product with a reciprocal is a quotient, the divisor not zero. -/
theorem norm_eq (x a s : EReal) (hs : divisor s ≠ 0) :
    norm (F := Ideal) x a (rcp (F := Ideal) s) = Ideal.div (x - a) (divisor s) := by
  show (x - a) * Ideal.div (Ideal.ofBits .f32 0x3F800000#32) (divisor s) = _
  rw [Ideal.ofBits_one_f32]
  exact Ideal.mul_one_div hs

/-- What the kernel writes is what the reference returns of the same arguments. -/
theorem values_eq (hm : PreOK m) (d : Dev Cert.KernelIdeal.nD)
    (hs : ∀ p : Cert.KernelIdeal.S64x1024.Idx, divisor (m ((SparseCore.T d).loc Cert.KernelIdeal.main_arg3) p) ≠ 0) :
    outOf m hm d = Reference.value (F := Ideal) (m (xLoc d)) (m ((SparseCore.T d).loc Cert.KernelIdeal.main_arg1))
      (m ((SparseCore.T d).loc Cert.KernelIdeal.main_arg2)) (m ((SparseCore.T d).loc Cert.KernelIdeal.main_arg3)) := by
  funext p
  refine (out_eq (inRange m hm d) p).trans ?_
  rw [Reference.value_at _ _ _ _ (hm d) p]
  have e0 : afterRecip (V₀ m) d (Proc.devRef .tc Cert.KernelIdeal.main_arg0) = m (xLoc d) := Function.update_of_ne (by decide) _ _
  have e1 : afterRecip (V₀ m) d (Proc.devRef .tc Cert.KernelIdeal.main_arg1) = m ((SparseCore.T d).loc Cert.KernelIdeal.main_arg1) := Function.update_of_ne (by decide) _ _
  have e2 : afterRecip (V₀ m) d (Proc.devRef .tc Cert.KernelIdeal.main_arg2) = m ((SparseCore.T d).loc Cert.KernelIdeal.main_arg2) := Function.update_of_ne (by decide) _ _
  have er : afterRecip (V₀ m) d (Proc.devRef .tc Cert.KernelIdeal.main_v0) = fun p => rcp (m ((SparseCore.T d).loc Cert.KernelIdeal.main_arg3) p) := Function.update_self _ _ _
  have ef : from_ (inRange m hm d) p = Reference.row (m ((SparseCore.T d).loc Cert.KernelIdeal.main_arg1)) (hm d) p := by
    refine congrArg₂ ValueIdx.ix2 (Fin.ext ?_) rfl
    exact congrArg (fun f : Cert.KernelIdeal.S16384.Idx → BitVec 32 => (f (ValueIdx.ix1 (p 0))).toNat) e1
  rw [ef, e0, e2, er]
  exact norm_eq _ _ _ (hs _)

/-! ## The claims -/

theorem frame_kernelIdeal_nonzero : Cert.quiescent_KernelIdeal_pre_in_range_nonzero := fun m ρ hpre =>
  (θ_run Cert.KernelIdeal.defs _ _).mono (fun _ h => ⟨fun c => ⟨(h.1 c).1, (h.1 c).2.1, (h.1 c).2.2.1, (h.1 c).2.2.2.1⟩, h.2⟩)
    (run_main (F := Ideal) m ρ fun d => (pre_of_fn _ _ _ _ (hpre d)).1)

/-- The reference leaves its arguments, and has no semaphore. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((SparseCore.T c).loc Cert.ReferenceIdeal.main_arg0) = m ((SparseCore.T c).loc Cert.ReferenceIdeal.main_arg0)
      ∧ r.2.mem ((SparseCore.T c).loc Cert.ReferenceIdeal.main_arg1) = m ((SparseCore.T c).loc Cert.ReferenceIdeal.main_arg1)
      ∧ r.2.mem ((SparseCore.T c).loc Cert.ReferenceIdeal.main_arg2) = m ((SparseCore.T c).loc Cert.ReferenceIdeal.main_arg2)
      ∧ r.2.mem ((SparseCore.T c).loc Cert.ReferenceIdeal.main_arg3) = m ((SparseCore.T c).loc Cert.ReferenceIdeal.main_arg3))
      ∧ r.2.sem = fun _ => 0) :=
  (θ_run Cert.ReferenceIdeal.defs _ _).mono (fun r h => ⟨fun c =>
      ⟨(h c Cert.ReferenceIdeal.main_arg0).trans (Reference.arg0_eq _), (h c Cert.ReferenceIdeal.main_arg1).trans (Reference.arg1_eq _),
        (h c Cert.ReferenceIdeal.main_arg2).trans (Reference.arg2_eq _), (h c Cert.ReferenceIdeal.main_arg3).trans (Reference.arg3_eq _)⟩,
      sem_eq_zero_of_no_sems (by decide) r.2⟩)
    (Reference.run_main m ρ)

theorem frame_reference : Cert.quiescent_ReferenceIdeal := fun m ρ _ => run_reference m ρ

theorem frame_reference_nonzero : Cert.quiescent_ReferenceIdeal_pre_in_range_nonzero := fun m ρ _ => run_reference m ρ

/-- The kernel and the reference compute the same function. -/
theorem algebraic : Cert.algebraic_KernelIdeal_ReferenceIdeal_pre_in_range_nonzero := fun m ρ m' ρ' hpre hag => by
  have hm : PreOK (F := Ideal) m := fun d => (pre_of_fn _ _ _ _ (hpre d)).1
  refine ⟨fun c => outOf m hm c, ?_, ?_⟩
  · exact (θ_run Cert.KernelIdeal.defs _ _).mono
      (fun _ h c => ⟨(h.1 c).2.2.2.2, (h.1 c).1, (h.1 c).2.1, (h.1 c).2.2.1, (h.1 c).2.2.2.1⟩) (run_main (F := Ideal) m ρ hm)
  · refine (θ_run Cert.ReferenceIdeal.defs _ _).mono (fun r h c => ?_) (Reference.run_main (F := Ideal) m' ρ')
    refine ⟨(h c Cert.ReferenceIdeal.main_v5).trans ((Reference.out_eq _).trans ?_),
      (h c Cert.ReferenceIdeal.main_arg0).trans (Reference.arg0_eq _), (h c Cert.ReferenceIdeal.main_arg1).trans (Reference.arg1_eq _),
      (h c Cert.ReferenceIdeal.main_arg2).trans (Reference.arg2_eq _), (h c Cert.ReferenceIdeal.main_arg3).trans (Reference.arg3_eq _)⟩
    refine Eq.trans ?_ (values_eq m hm c (pre_of_fn _ _ _ _ (hpre c)).2).symm
    obtain ⟨h0, h1, h2, h3⟩ := hag c
    exact congr (congr (congr (congrArg Reference.value h0) h1) h2) h3

end Cert.Proof

end
-- ==== Proof.lean ====
/-
  The claim assembled: the side conditions, the frames of the kernel, of its ideal reading and of the reference, the ideal
  reading (the kernel's own text), and the equality of the kernel's function and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Algebra

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_in_range.Gen.facts, preFacts,
    frame_kernel, frame_kernelIdeal, frame_kernelIdeal_nonzero, frame_reference, frame_reference_nonzero, trivial, algebraic⟩

end Cert.Proof

end
